-- ==== Defs.lean ====
def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_OProj (m : (ℓ : Loc Cert.OProj.nD Cert.OProj.τ Cert.OProj.sig) → Buf (Elt Bits) ℓ) : Prop :=
  True

def Pre_OProjIdeal (m : (ℓ : Loc Cert.OProjIdeal.nD Cert.OProjIdeal.τ Cert.OProjIdeal.sig) → Buf (Elt Ideal) ℓ) : Prop :=
  True

def Pre_OProjRefIdeal (m : (ℓ : Loc Cert.OProjRefIdeal.nD Cert.OProjRefIdeal.τ Cert.OProjRefIdeal.sig) → Buf (Elt Ideal) ℓ) : Prop :=
  True

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4)
      ∧ r.2.mem ((c.tc : Thread Cert.Up.nD Cert.Up.τ).loc Cert.Up.main_arg5) = m ((c.tc : Thread Cert.Up.nD Cert.Up.τ).loc Cert.Up.main_arg5))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3))
      ∧ r.2.sem = fun _ => 0)

def quiescent_OProj [hOProj : Cert.OProj.Facts] : Prop :=
  ∀ (m : (ℓ : Loc Cert.OProj.nD Cert.OProj.τ Cert.OProj.sig) → Buf (Elt Bits) ℓ) (g : Dev Cert.OProj.nD → PrngReg), Pre_OProj m →
    θ_run (Cert.OProj.defs (F := Bits)) (onTc (τ := Cert.OProj.τ) (Cert.OProj.main (F := Bits))) ⟨m, fun _ => 0, g⟩ (fun r => (∀ c : Dev Cert.OProj.nD,
      r.2.mem ((c.tc : Thread Cert.OProj.nD Cert.OProj.τ).loc Cert.OProj.main_arg0) = m ((c.tc : Thread Cert.OProj.nD Cert.OProj.τ).loc Cert.OProj.main_arg0)
      ∧ r.2.mem ((c.tc : Thread Cert.OProj.nD Cert.OProj.τ).loc Cert.OProj.main_arg1) = m ((c.tc : Thread Cert.OProj.nD Cert.OProj.τ).loc Cert.OProj.main_arg1)
      ∧ r.2.mem ((c.tc : Thread Cert.OProj.nD Cert.OProj.τ).loc Cert.OProj.main_arg2) = m ((c.tc : Thread Cert.OProj.nD Cert.OProj.τ).loc Cert.OProj.main_arg2)
      ∧ r.2.mem ((c.tc : Thread Cert.OProj.nD Cert.OProj.τ).loc Cert.OProj.main_arg3) = m ((c.tc : Thread Cert.OProj.nD Cert.OProj.τ).loc Cert.OProj.main_arg3)
      ∧ r.2.mem ((c.tc : Thread Cert.OProj.nD Cert.OProj.τ).loc Cert.OProj.main_arg4) = m ((c.tc : Thread Cert.OProj.nD Cert.OProj.τ).loc Cert.OProj.main_arg4)
      ∧ r.2.mem ((c.tc : Thread Cert.OProj.nD Cert.OProj.τ).loc Cert.OProj.main_arg5) = m ((c.tc : Thread Cert.OProj.nD Cert.OProj.τ).loc Cert.OProj.main_arg5))
      ∧ r.2.sem = fun _ => 0)

def quiescent_OProjIdeal [hOProjIdeal : Cert.OProjIdeal.Facts] : Prop :=
  ∀ (m : (ℓ : Loc Cert.OProjIdeal.nD Cert.OProjIdeal.τ Cert.OProjIdeal.sig) → Buf (Elt Ideal) ℓ) (g : Dev Cert.OProjIdeal.nD → PrngReg), Pre_OProjIdeal m →
    θ_run (Cert.OProjIdeal.defs (F := Ideal)) (onTc (τ := Cert.OProjIdeal.τ) (Cert.OProjIdeal.main (F := Ideal))) ⟨m, fun _ => 0, g⟩ (fun r => (∀ c : Dev Cert.OProjIdeal.nD,
      r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
      ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
      ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
      ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
      ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4)
      ∧ r.2.mem ((c.tc : Thread Cert.OProjIdeal.nD Cert.OProjIdeal.τ).loc Cert.OProjIdeal.main_arg5) = m ((c.tc : Thread Cert.OProjIdeal.nD Cert.OProjIdeal.τ).loc Cert.OProjIdeal.main_arg5))
      ∧ r.2.sem = fun _ => 0)

def quiescent_OProjRefIdeal [hOProjRefIdeal : Cert.OProjRefIdeal.Facts] : Prop :=
  ∀ (m : (ℓ : Loc Cert.OProjRefIdeal.nD Cert.OProjRefIdeal.τ Cert.OProjRefIdeal.sig) → Buf (Elt Ideal) ℓ) (g : Dev Cert.OProjRefIdeal.nD → PrngReg), Pre_OProjRefIdeal m →
    θ_run (Cert.OProjRefIdeal.defs (F := Ideal)) (onTc (τ := Cert.OProjRefIdeal.τ) (Cert.OProjRefIdeal.main (F := Ideal))) ⟨m, fun _ => 0, g⟩ (fun r => (∀ c : Dev Cert.OProjRefIdeal.nD,
      r.2.mem ((c.tc : Thread Cert.OProjRefIdeal.nD Cert.OProjRefIdeal.τ).loc Cert.OProjRefIdeal.main_arg0) = m ((c.tc : Thread Cert.OProjRefIdeal.nD Cert.OProjRefIdeal.τ).loc Cert.OProjRefIdeal.main_arg0)
      ∧ r.2.mem ((c.tc : Thread Cert.OProjRefIdeal.nD Cert.OProjRefIdeal.τ).loc Cert.OProjRefIdeal.main_arg1) = m ((c.tc : Thread Cert.OProjRefIdeal.nD Cert.OProjRefIdeal.τ).loc Cert.OProjRefIdeal.main_arg1)
      ∧ r.2.mem ((c.tc : Thread Cert.OProjRefIdeal.nD Cert.OProjRefIdeal.τ).loc Cert.OProjRefIdeal.main_arg2) = m ((c.tc : Thread Cert.OProjRefIdeal.nD Cert.OProjRefIdeal.τ).loc Cert.OProjRefIdeal.main_arg2)
      ∧ r.2.mem ((c.tc : Thread Cert.OProjRefIdeal.nD Cert.OProjRefIdeal.τ).loc Cert.OProjRefIdeal.main_arg3) = m ((c.tc : Thread Cert.OProjRefIdeal.nD Cert.OProjRefIdeal.τ).loc Cert.OProjRefIdeal.main_arg3)
      ∧ r.2.mem ((c.tc : Thread Cert.OProjRefIdeal.nD Cert.OProjRefIdeal.τ).loc Cert.OProjRefIdeal.main_arg4) = m ((c.tc : Thread Cert.OProjRefIdeal.nD Cert.OProjRefIdeal.τ).loc Cert.OProjRefIdeal.main_arg4)
      ∧ r.2.mem ((c.tc : Thread Cert.OProjRefIdeal.nD Cert.OProjRefIdeal.τ).loc Cert.OProjRefIdeal.main_arg5) = m ((c.tc : Thread Cert.OProjRefIdeal.nD Cert.OProjRefIdeal.τ).loc Cert.OProjRefIdeal.main_arg5))
      ∧ r.2.sem = fun _ => 0)

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)
      ∧ m' ((c.tc : Thread Cert.UpRefIdeal.nD Cert.UpRefIdeal.τ).loc Cert.UpRefIdeal.main_arg5) = m ((c.tc : Thread Cert.UpIdeal.nD Cert.UpIdeal.τ).loc Cert.UpIdeal.main_arg5)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
          ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v1_0) = v0 c
          ∧ r.2.mem ((c.tc : Thread Cert.UpRefIdeal.nD Cert.UpRefIdeal.τ).loc Cert.UpRefIdeal.main_v1_1) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4)
          ∧ r.2.mem ((c.tc : Thread Cert.UpRefIdeal.nD Cert.UpRefIdeal.τ).loc Cert.UpRefIdeal.main_arg5) = m' ((c.tc : Thread Cert.UpRefIdeal.nD Cert.UpRefIdeal.τ).loc Cert.UpRefIdeal.main_arg5))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)) →
    ∃ (v0 : (c : Dev Cert.QkvIdeal.nD) → Buf (Elt Ideal) ((c.tc : Thread Cert.QkvIdeal.nD Cert.QkvIdeal.τ).loc Cert.QkvIdeal.main_v18_0)) (v1 : (c : Dev Cert.QkvIdeal.nD) → Buf (Elt Ideal) ((c.tc : Thread Cert.QkvIdeal.nD Cert.QkvIdeal.τ).loc Cert.QkvIdeal.main_v18_1)) (v2 : (c : Dev Cert.QkvIdeal.nD) → Buf (Elt Ideal) ((c.tc : Thread Cert.QkvIdeal.nD Cert.QkvIdeal.τ).loc Cert.QkvIdeal.main_v18_2)) (v3 : (c : Dev Cert.QkvIdeal.nD) → Buf (Elt Ideal) ((c.tc : Thread Cert.QkvIdeal.nD Cert.QkvIdeal.τ).loc Cert.QkvIdeal.main_v18_3)) (v4 : (c : Dev Cert.QkvIdeal.nD) → Buf (Elt Ideal) ((c.tc : Thread Cert.QkvIdeal.nD Cert.QkvIdeal.τ).loc Cert.QkvIdeal.main_v18_4)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v18_0) = v0 c
          ∧ r.2.mem ((c.tc : Thread Cert.QkvIdeal.nD Cert.QkvIdeal.τ).loc Cert.QkvIdeal.main_v18_1) = v1 c
          ∧ r.2.mem ((c.tc : Thread Cert.QkvIdeal.nD Cert.QkvIdeal.τ).loc Cert.QkvIdeal.main_v18_2) = v2 c
          ∧ r.2.mem ((c.tc : Thread Cert.QkvIdeal.nD Cert.QkvIdeal.τ).loc Cert.QkvIdeal.main_v18_3) = v3 c
          ∧ r.2.mem ((c.tc : Thread Cert.QkvIdeal.nD Cert.QkvIdeal.τ).loc Cert.QkvIdeal.main_v18_4) = v4 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v17_0) = v0 c
          ∧ r.2.mem ((c.tc : Thread Cert.QkvRefIdeal.nD Cert.QkvRefIdeal.τ).loc Cert.QkvRefIdeal.main_v17_1) = v1 c
          ∧ r.2.mem ((c.tc : Thread Cert.QkvRefIdeal.nD Cert.QkvRefIdeal.τ).loc Cert.QkvRefIdeal.main_v17_2) = v2 c
          ∧ r.2.mem ((c.tc : Thread Cert.QkvRefIdeal.nD Cert.QkvRefIdeal.τ).loc Cert.QkvRefIdeal.main_v17_3) = v3 c
          ∧ r.2.mem ((c.tc : Thread Cert.QkvRefIdeal.nD Cert.QkvRefIdeal.τ).loc Cert.QkvRefIdeal.main_v17_4) = v4 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3))

def preserves_OProj_OProjIdeal : Prop :=
  True

def algebraic_OProjIdeal_OProjRefIdeal [hOProjIdeal : Cert.OProjIdeal.Facts] [hOProjRefIdeal : Cert.OProjRefIdeal.Facts] : Prop :=
  ∀ (m : (ℓ : Loc Cert.OProjIdeal.nD Cert.OProjIdeal.τ Cert.OProjIdeal.sig) → Buf (Elt Ideal) ℓ) (g : Dev Cert.OProjIdeal.nD → PrngReg)
    (m' : (ℓ : Loc Cert.OProjRefIdeal.nD Cert.OProjRefIdeal.τ Cert.OProjRefIdeal.sig) → Buf (Elt Ideal) ℓ) (g' : Dev Cert.OProjRefIdeal.nD → PrngReg), Pre_OProjIdeal m →
    (∀ c : Dev Cert.OProjIdeal.nD,
      m' ((c.tc : Thread Cert.OProjRefIdeal.nD Cert.OProjRefIdeal.τ).loc Cert.OProjRefIdeal.main_arg0) = m ((c.tc : Thread Cert.OProjIdeal.nD Cert.OProjIdeal.τ).loc Cert.OProjIdeal.main_arg0)
      ∧ m' ((c.tc : Thread Cert.OProjRefIdeal.nD Cert.OProjRefIdeal.τ).loc Cert.OProjRefIdeal.main_arg1) = m ((c.tc : Thread Cert.OProjIdeal.nD Cert.OProjIdeal.τ).loc Cert.OProjIdeal.main_arg1)
      ∧ m' ((c.tc : Thread Cert.OProjRefIdeal.nD Cert.OProjRefIdeal.τ).loc Cert.OProjRefIdeal.main_arg2) = m ((c.tc : Thread Cert.OProjIdeal.nD Cert.OProjIdeal.τ).loc Cert.OProjIdeal.main_arg2)
      ∧ m' ((c.tc : Thread Cert.OProjRefIdeal.nD Cert.OProjRefIdeal.τ).loc Cert.OProjRefIdeal.main_arg3) = m ((c.tc : Thread Cert.OProjIdeal.nD Cert.OProjIdeal.τ).loc Cert.OProjIdeal.main_arg3)
      ∧ m' ((c.tc : Thread Cert.OProjRefIdeal.nD Cert.OProjRefIdeal.τ).loc Cert.OProjRefIdeal.main_arg4) = m ((c.tc : Thread Cert.OProjIdeal.nD Cert.OProjIdeal.τ).loc Cert.OProjIdeal.main_arg4)
      ∧ m' ((c.tc : Thread Cert.OProjRefIdeal.nD Cert.OProjRefIdeal.τ).loc Cert.OProjRefIdeal.main_arg5) = m ((c.tc : Thread Cert.OProjIdeal.nD Cert.OProjIdeal.τ).loc Cert.OProjIdeal.main_arg5)) →
    ∃ (v0 : (c : Dev Cert.OProjIdeal.nD) → Buf (Elt Ideal) ((c.tc : Thread Cert.OProjIdeal.nD Cert.OProjIdeal.τ).loc Cert.OProjIdeal.main_v0_0)) (v1 : (c : Dev Cert.OProjIdeal.nD) → Buf (Elt Ideal) ((c.tc : Thread Cert.OProjIdeal.nD Cert.OProjIdeal.τ).loc Cert.OProjIdeal.main_v0_1)) (v2 : (c : Dev Cert.OProjIdeal.nD) → Buf (Elt Ideal) ((c.tc : Thread Cert.OProjIdeal.nD Cert.OProjIdeal.τ).loc Cert.OProjIdeal.main_v0_2)),
      θ_run (Cert.OProjIdeal.defs (F := Ideal)) (onTc (τ := Cert.OProjIdeal.τ) (Cert.OProjIdeal.main (F := Ideal))) ⟨m, fun _ => 0, g⟩ (fun r => ∀ c : Dev Cert.OProjIdeal.nD,
          r.2.mem ((c.tc : Thread Cert.OProjIdeal.nD Cert.OProjIdeal.τ).loc Cert.OProjIdeal.main_v0_0) = v0 c
          ∧ r.2.mem ((c.tc : Thread Cert.OProjIdeal.nD Cert.OProjIdeal.τ).loc Cert.OProjIdeal.main_v0_1) = v1 c
          ∧ r.2.mem ((c.tc : Thread Cert.OProjIdeal.nD Cert.OProjIdeal.τ).loc Cert.OProjIdeal.main_v0_2) = v2 c
          ∧ r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
          ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
          ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
          ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
          ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4)
          ∧ r.2.mem ((c.tc : Thread Cert.OProjIdeal.nD Cert.OProjIdeal.τ).loc Cert.OProjIdeal.main_arg5) = m ((c.tc : Thread Cert.OProjIdeal.nD Cert.OProjIdeal.τ).loc Cert.OProjIdeal.main_arg5))
      ∧ θ_run (Cert.OProjRefIdeal.defs (F := Ideal)) (onTc (τ := Cert.OProjRefIdeal.τ) (Cert.OProjRefIdeal.main (F := Ideal))) ⟨m', fun _ => 0, g'⟩ (fun r => ∀ c : Dev Cert.OProjRefIdeal.nD,
          r.2.mem ((c.tc : Thread Cert.OProjRefIdeal.nD Cert.OProjRefIdeal.τ).loc Cert.OProjRefIdeal.main_v1_0) = v0 c
          ∧ r.2.mem ((c.tc : Thread Cert.OProjRefIdeal.nD Cert.OProjRefIdeal.τ).loc Cert.OProjRefIdeal.main_v1_1) = v1 c
          ∧ r.2.mem ((c.tc : Thread Cert.OProjRefIdeal.nD Cert.OProjRefIdeal.τ).loc Cert.OProjRefIdeal.main_v1_2) = v2 c
          ∧ r.2.mem ((c.tc : Thread Cert.OProjRefIdeal.nD Cert.OProjRefIdeal.τ).loc Cert.OProjRefIdeal.main_arg0) = m' ((c.tc : Thread Cert.OProjRefIdeal.nD Cert.OProjRefIdeal.τ).loc Cert.OProjRefIdeal.main_arg0)
          ∧ r.2.mem ((c.tc : Thread Cert.OProjRefIdeal.nD Cert.OProjRefIdeal.τ).loc Cert.OProjRefIdeal.main_arg1) = m' ((c.tc : Thread Cert.OProjRefIdeal.nD Cert.OProjRefIdeal.τ).loc Cert.OProjRefIdeal.main_arg1)
          ∧ r.2.mem ((c.tc : Thread Cert.OProjRefIdeal.nD Cert.OProjRefIdeal.τ).loc Cert.OProjRefIdeal.main_arg2) = m' ((c.tc : Thread Cert.OProjRefIdeal.nD Cert.OProjRefIdeal.τ).loc Cert.OProjRefIdeal.main_arg2)
          ∧ r.2.mem ((c.tc : Thread Cert.OProjRefIdeal.nD Cert.OProjRefIdeal.τ).loc Cert.OProjRefIdeal.main_arg3) = m' ((c.tc : Thread Cert.OProjRefIdeal.nD Cert.OProjRefIdeal.τ).loc Cert.OProjRefIdeal.main_arg3)
          ∧ r.2.mem ((c.tc : Thread Cert.OProjRefIdeal.nD Cert.OProjRefIdeal.τ).loc Cert.OProjRefIdeal.main_arg4) = m' ((c.tc : Thread Cert.OProjRefIdeal.nD Cert.OProjRefIdeal.τ).loc Cert.OProjRefIdeal.main_arg4)
          ∧ r.2.mem ((c.tc : Thread Cert.OProjRefIdeal.nD Cert.OProjRefIdeal.τ).loc Cert.OProjRefIdeal.main_arg5) = m' ((c.tc : Thread Cert.OProjRefIdeal.nD Cert.OProjRefIdeal.τ).loc Cert.OProjRefIdeal.main_arg5))

def Claim : Prop :=
  ∃ (hUp : Cert.Up.Facts) (hUpIdeal : Cert.UpIdeal.Facts) (hUpRefIdeal : Cert.UpRefIdeal.Facts) (hQkv : Cert.Qkv.Facts) (hQkvIdeal : Cert.QkvIdeal.Facts) (hQkvRefIdeal : Cert.QkvRefIdeal.Facts) (hOProj : Cert.OProj.Facts) (hOProjIdeal : Cert.OProjIdeal.Facts) (hOProjRefIdeal : Cert.OProjRefIdeal.Facts),
    quiescent_Up (hUp := hUp)
    ∧ quiescent_UpIdeal (hUpIdeal := hUpIdeal)
    ∧ quiescent_UpRefIdeal (hUpRefIdeal := hUpRefIdeal)
    ∧ quiescent_Qkv (hQkv := hQkv)
    ∧ quiescent_QkvIdeal (hQkvIdeal := hQkvIdeal)
    ∧ quiescent_QkvRefIdeal (hQkvRefIdeal := hQkvRefIdeal)
    ∧ quiescent_OProj (hOProj := hOProj)
    ∧ quiescent_OProjIdeal (hOProjIdeal := hOProjIdeal)
    ∧ quiescent_OProjRefIdeal (hOProjRefIdeal := hOProjRefIdeal)
    ∧ preserves_Up_UpIdeal
    ∧ algebraic_UpIdeal_UpRefIdeal (hUpIdeal := hUpIdeal) (hUpRefIdeal := hUpRefIdeal)
    ∧ preserves_Qkv_QkvIdeal
    ∧ algebraic_QkvIdeal_QkvRefIdeal (hQkvIdeal := hQkvIdeal) (hQkvRefIdeal := hQkvRefIdeal)
    ∧ preserves_OProj_OProjIdeal
    ∧ algebraic_OProjIdeal_OProjRefIdeal (hOProjIdeal := hOProjIdeal) (hOProjRefIdeal := hOProjRefIdeal)
-- ==== Up.lean ====
abbrev S12288x2560 : Shape := ⟨2, ![12288, 2560]⟩
abbrev S48x1x256 : Shape := ⟨3, ![48, 1, 256]⟩
abbrev S2x6912x2560 : Shape := ⟨3, ![2, 6912, 2560]⟩
abbrev S2x6912 : Shape := ⟨2, ![2, 6912]⟩
abbrev S1x6912 : Shape := ⟨2, ![1, 6912]⟩
abbrev S12288x6912 : Shape := ⟨2, ![12288, 6912]⟩
abbrev S256x2560 : Shape := ⟨2, ![256, 2560]⟩
abbrev S1x1x256 : Shape := ⟨3, ![1, 1, 256]⟩
abbrev S256x6912 : Shape := ⟨2, ![256, 6912]⟩
abbrev S1x256 : Shape := ⟨2, ![1, 256]⟩
abbrev S1x128 : Shape := ⟨2, ![1, 128]⟩
abbrev S128x128 : Shape := ⟨2, ![128, 128]⟩
abbrev S128x1 : Shape := ⟨2, ![128, 1]⟩
abbrev S256x1 : Shape := ⟨2, ![256, 1]⟩
abbrev S1x256x2560 : Shape := ⟨3, ![1, 256, 2560]⟩
abbrev S256x256 : Shape := ⟨2, ![256, 256]⟩
abbrev S256x128 : Shape := ⟨2, ![256, 128]⟩
abbrev S256 : Shape := ⟨1, ![256]⟩

abbrev nBuf : Space → Nat
  | .hbm => 8
  | .vmem => 13
  | .smem => 0
  | _ => 0

abbrev bufTy : (tb : Table) → Fin (tcTables nBuf tb) → BufTy
  | .hbm, ⟨0, _⟩ => ⟨S12288x2560, .fp8e4m3⟩
  | .hbm, ⟨1, _⟩ => ⟨S48x1x256, .f32⟩
  | .hbm, ⟨2, _⟩ => ⟨S2x6912x2560, .fp8e4m3⟩
  | .hbm, ⟨3, _⟩ => ⟨S2x6912, .f32⟩
  | .hbm, ⟨4, _⟩ => ⟨S1x6912, .f32⟩
  | .hbm, ⟨5, _⟩ => ⟨S1x6912, .f32⟩
  | .hbm, ⟨6, _⟩ => ⟨S12288x6912, .fp8e4m3⟩
  | .hbm, ⟨7, _⟩ => ⟨S48x1x256, .f32⟩
  | .local _ .vmem, ⟨0, _⟩ => ⟨S256x2560, .fp8e4m3⟩
  | .local _ .vmem, ⟨1, _⟩ => ⟨S256x2560, .fp8e4m3⟩
  | .local _ .vmem, ⟨2, _⟩ => ⟨S1x1x256, .f32⟩
  | .local _ .vmem, ⟨3, _⟩ => ⟨S1x1x256, .f32⟩
  | .local _ .vmem, ⟨4, _⟩ => ⟨S2x6912x2560, .fp8e4m3⟩
  | .local _ .vmem, ⟨5, _⟩ => ⟨S2x6912, .f32⟩
  | .local _ .vmem, ⟨6, _⟩ => ⟨S1x6912, .f32⟩
  | .local _ .vmem, ⟨7, _⟩ => ⟨S1x6912, .f32⟩
  | .local _ .vmem, ⟨8, _⟩ => ⟨S256x6912, .fp8e4m3⟩
  | .local _ .vmem, ⟨9, _⟩ => ⟨S256x6912, .fp8e4m3⟩
  | .local _ .vmem, ⟨10, _⟩ => ⟨S1x1x256, .f32⟩
  | .local _ .vmem, ⟨11, _⟩ => ⟨S1x1x256, .f32⟩
  | .local _ .vmem, ⟨12, _⟩ => ⟨S256x6912, .f32⟩
  | _, _ => ⟨S12288x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2560 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x6912x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x6912 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x6912 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x6912 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x6912 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpRefIdeal.lean ====
abbrev S12288x2560 : Shape := ⟨2, ![12288, 2560]⟩
abbrev S48x1x256 : Shape := ⟨3, ![48, 1, 256]⟩
abbrev S2x6912x2560 : Shape := ⟨3, ![2, 6912, 2560]⟩
abbrev S2x6912 : Shape := ⟨2, ![2, 6912]⟩
abbrev S1x6912 : Shape := ⟨2, ![1, 6912]⟩
abbrev S12288x1 : Shape := ⟨2, ![12288, 1]⟩
abbrev S12288x6912 : Shape := ⟨2, ![12288, 6912]⟩
abbrev S1x6912x2560 : Shape := ⟨3, ![1, 6912, 2560]⟩
abbrev S6912x2560 : Shape := ⟨2, ![6912, 2560]⟩
abbrev S12288 : Shape := ⟨1, ![12288]⟩

abbrev nBuf : Space → Nat
  | .hbm => 9
  | .vmem => 8
  | .smem => 0
  | _ => 0

abbrev bufTy : (tb : Table) → Fin (tcTables nBuf tb) → BufTy
  | .hbm, ⟨0, _⟩ => ⟨S12288x2560, .fp8e4m3⟩
  | .hbm, ⟨1, _⟩ => ⟨S48x1x256, .f32⟩
  | .hbm, ⟨2, _⟩ => ⟨S2x6912x2560, .fp8e4m3⟩
  | .hbm, ⟨3, _⟩ => ⟨S2x6912, .f32⟩
  | .hbm, ⟨4, _⟩ => ⟨S1x6912, .f32⟩
  | .hbm, ⟨5, _⟩ => ⟨S1x6912, .f32⟩
  | .hbm, ⟨6, _⟩ => ⟨S12288x1, .f32⟩
  | .hbm, ⟨7, _⟩ => ⟨S12288x6912, .fp8e4m3⟩
  | .hbm, ⟨8, _⟩ => ⟨S48x1x256, .f32⟩
  | .local _ .vmem, ⟨0, _⟩ => ⟨S12288x2560, .fp8e4m3⟩
  | .local _ .vmem, ⟨1, _⟩ => ⟨S12288x1, .f32⟩
  | .local _ .vmem, ⟨2, _⟩ => ⟨S2x6912x2560, .fp8e4m3⟩
  | .local _ .vmem, ⟨3, _⟩ => ⟨S2x6912, .f32⟩
  | .local _ .vmem, ⟨4, _⟩ => ⟨S1x6912, .f32⟩
  | .local _ .vmem, ⟨5, _⟩ => ⟨S1x6912, .f32⟩
  | .local _ .vmem, ⟨6, _⟩ => ⟨S12288x6912, .fp8e4m3⟩
  | .local _ .vmem, ⟨7, _⟩ => ⟨S48x1x256, .f32⟩
  | _, _ => ⟨S12288x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S12288x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x6912x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x6912 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x6912 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x6912 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x6912 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S48x1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Qkv.lean ====
abbrev S12288x2560 : Shape := ⟨2, ![12288, 2560]⟩
abbrev S7680x2560 : Shape := ⟨2, ![7680, 2560]⟩
abbrev S1x7680 : Shape := ⟨2, ![1, 7680]⟩
abbrev S1x2560 : Shape := ⟨2, ![1, 2560]⟩
abbrev S64 : Shape := ⟨1, ![64]⟩
abbrev S_ : Shape := ⟨0, ![]⟩
abbrev S1024 : Shape := ⟨1, ![1024]⟩
abbrev S1024x1 : Shape := ⟨2, ![1024, 1]⟩
abbrev S1x64 : Shape := ⟨2, ![1, 64]⟩
abbrev S1024x64 : Shape := ⟨2, ![1024, 64]⟩
abbrev S1024x128 : Shape := ⟨2, ![1024, 128]⟩
abbrev S24x1x512 : Shape := ⟨3, ![24, 1, 512]⟩
abbrev S512x2560 : Shape := ⟨2, ![512, 2560]⟩
abbrev S512x128 : Shape := ⟨2, ![512, 128]⟩
abbrev S1x1x512 : Shape := ⟨3, ![1, 1, 512]⟩
abbrev S512 : Shape := ⟨1, ![512]⟩
abbrev S512x1 : Shape := ⟨2, ![512, 1]⟩
abbrev S128x1 : Shape := ⟨2, ![128, 1]⟩
abbrev S128x128 : Shape := ⟨2, ![128, 128]⟩
abbrev S1x128 : Shape := ⟨2, ![1, 128]⟩
abbrev S1x512 : Shape := ⟨2, ![1, 512]⟩
abbrev S256x2560 : Shape := ⟨2, ![256, 2560]⟩
abbrev S512x256 : Shape := ⟨2, ![512, 256]⟩
abbrev S1x256 : Shape := ⟨2, ![1, 256]⟩

abbrev nBuf : Space → Nat
  | .hbm => 30
  | .vmem => 19
  | .smem => 0
  | _ => 0

abbrev bufTy : (tb : Table) → Fin (tcTables nBuf tb) → BufTy
  | .hbm, ⟨0, _⟩ => ⟨S12288x2560, .bf16⟩
  | .hbm, ⟨1, _⟩ => ⟨S7680x2560, .fp8e4m3⟩
  | .hbm, ⟨2, _⟩ => ⟨S1x7680, .f32⟩
  | .hbm, ⟨3, _⟩ => ⟨S1x2560, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S1024, .f32⟩
  | .hbm, ⟨15, _⟩ => ⟨S1024x1, .f32⟩
  | .hbm, ⟨16, _⟩ => ⟨S1x64, .f32⟩
  | .hbm, ⟨17, _⟩ => ⟨S1024x64, .f32⟩
  | .hbm, ⟨18, _⟩ => ⟨S1024x64, .f32⟩
  | .hbm, ⟨19, _⟩ => ⟨S1024x64, .f32⟩
  | .hbm, ⟨20, _⟩ => ⟨S1024x64, .f32⟩
  | .hbm, ⟨21, _⟩ => ⟨S1024x64, .f32⟩
  | .hbm, ⟨22, _⟩ => ⟨S1024x128, .f32⟩
  | .hbm, ⟨23, _⟩ => ⟨S1024x64, .f32⟩
  | .hbm, ⟨24, _⟩ => ⟨S1024x128, .f32⟩
  | .hbm, ⟨25, _⟩ => ⟨S12288x2560, .bf16⟩
  | .hbm, ⟨26, _⟩ => ⟨S12288x2560, .bf16⟩
  | .hbm, ⟨27, _⟩ => ⟨S12288x2560, .bf16⟩
  | .hbm, ⟨28, _⟩ => ⟨S12288x2560, .fp8e4m3⟩
  | .hbm, ⟨29, _⟩ => ⟨S24x1x512, .f32⟩
  | .local _ .vmem, ⟨0, _⟩ => ⟨S512x2560, .bf16⟩
  | .local _ .vmem, ⟨1, _⟩ => ⟨S512x2560, .bf16⟩
  | .local _ .vmem, ⟨2, _⟩ => ⟨S7680x2560, .fp8e4m3⟩
  | .local _ .vmem, ⟨3, _⟩ => ⟨S1x7680, .f32⟩
  | .local _ .vmem, ⟨4, _⟩ => ⟨S1x2560, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x2560, .bf16⟩
  | .local _ .vmem, ⟨10, _⟩ => ⟨S512x2560, .bf16⟩
  | .local _ .vmem, ⟨11, _⟩ => ⟨S512x2560, .bf16⟩
  | .local _ .vmem, ⟨12, _⟩ => ⟨S512x2560, .bf16⟩
  | .local _ .vmem, ⟨13, _⟩ => ⟨S512x2560, .bf16⟩
  | .local _ .vmem, ⟨14, _⟩ => ⟨S512x2560, .bf16⟩
  | .local _ .vmem, ⟨15, _⟩ => ⟨S512x2560, .fp8e4m3⟩
  | .local _ .vmem, ⟨16, _⟩ => ⟨S512x2560, .fp8e4m3⟩
  | .local _ .vmem, ⟨17, _⟩ => ⟨S1x1x512, .f32⟩
  | .local _ .vmem, ⟨18, _⟩ => ⟨S1x1x512, .f32⟩
  | _, _ => ⟨S12288x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev main_v18_2 : Ref sig .tc := ⟨.hbm, 27, rfl⟩
abbrev main_v18_3 : Ref sig .tc := ⟨.hbm, 28, rfl⟩
abbrev main_v18_4 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7680x2560 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x7680 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2560 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2560 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2560 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2560 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== QkvRefIdeal.lean ====
abbrev S12288x2560 : Shape := ⟨2, ![12288, 2560]⟩
abbrev S7680x2560 : Shape := ⟨2, ![7680, 2560]⟩
abbrev S1x7680 : Shape := ⟨2, ![1, 7680]⟩
abbrev S1x2560 : Shape := ⟨2, ![1, 2560]⟩
abbrev S64 : Shape := ⟨1, ![64]⟩
abbrev S_ : Shape := ⟨0, ![]⟩
abbrev S1024 : Shape := ⟨1, ![1024]⟩
abbrev S1024x1 : Shape := ⟨2, ![1024, 1]⟩
abbrev S1x64 : Shape := ⟨2, ![1, 64]⟩
abbrev S1024x64 : Shape := ⟨2, ![1024, 64]⟩
abbrev S1024x1x64 : Shape := ⟨3, ![1024, 1, 64]⟩
abbrev S24x1x512 : Shape := ⟨3, ![24, 1, 512]⟩
abbrev S12288 : Shape := ⟨1, ![12288]⟩
abbrev S12288x1 : Shape := ⟨2, ![12288, 1]⟩
abbrev S12288x7680 : Shape := ⟨2, ![12288, 7680]⟩
abbrev S20x128 : Shape := ⟨2, ![20, 128]⟩
abbrev S12x1024x20x128 : Shape := ⟨4, ![12, 1024, 20, 128]⟩
abbrev S12x1024x20x64 : Shape := ⟨4, ![12, 1024, 20, 64]⟩
abbrev S1x1024x1x64 : Shape := ⟨4, ![1, 1024, 1, 64]⟩
abbrev S12x1024x20 : Shape := ⟨3, ![12, 1024, 20]⟩
abbrev S12x1024x20x1 : Shape := ⟨4, ![12, 1024, 20, 1]⟩
abbrev S1x1x20x128 : Shape := ⟨4, ![1, 1, 20, 128]⟩

abbrev nBuf : Space → Nat
  | .hbm => 29
  | .vmem => 11
  | .smem => 0
  | _ => 0

abbrev bufTy : (tb : Table) → Fin (tcTables nBuf tb) → BufTy
  | .hbm, ⟨0, _⟩ => ⟨S12288x2560, .bf16⟩
  | .hbm, ⟨1, _⟩ => ⟨S7680x2560, .fp8e4m3⟩
  | .hbm, ⟨2, _⟩ => ⟨S1x7680, .f32⟩
  | .hbm, ⟨3, _⟩ => ⟨S1x2560, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S1024, .f32⟩
  | .hbm, ⟨15, _⟩ => ⟨S1024x1, .f32⟩
  | .hbm, ⟨16, _⟩ => ⟨S1x64, .f32⟩
  | .hbm, ⟨17, _⟩ => ⟨S1024x64, .f32⟩
  | .hbm, ⟨18, _⟩ => ⟨S1024x64, .f32⟩
  | .hbm, ⟨19, _⟩ => ⟨S1024x64, .f32⟩
  | .hbm, ⟨20, _⟩ => ⟨S1024x64, .f32⟩
  | .hbm, ⟨21, _⟩ => ⟨S1024x1x64, .f32⟩
  | .hbm, ⟨22, _⟩ => ⟨S1024x64, .f32⟩
  | .hbm, ⟨23, _⟩ => ⟨S1024x1x64, .f32⟩
  | .hbm, ⟨24, _⟩ => ⟨S12288x2560, .bf16⟩
  | .hbm, ⟨25, _⟩ => ⟨S12288x2560, .bf16⟩
  | .hbm, ⟨26, _⟩ => ⟨S12288x2560, .bf16⟩
  | .hbm, ⟨27, _⟩ => ⟨S12288x2560, .fp8e4m3⟩
  | .hbm, ⟨28, _⟩ => ⟨S24x1x512, .f32⟩
  | .local _ .vmem, ⟨0, _⟩ => ⟨S12288x2560, .bf16⟩
  | .local _ .vmem, ⟨1, _⟩ => ⟨S7680x2560, .fp8e4m3⟩
  | .local _ .vmem, ⟨2, _⟩ => ⟨S1x7680, .f32⟩
  | .local _ .vmem, ⟨3, _⟩ => ⟨S1x2560, .f32⟩
  | .local _ .vmem, ⟨4, _⟩ => ⟨S1024x1x64, .f32⟩
  | .local _ .vmem, ⟨5, _⟩ => ⟨S1024x1x64, .f32⟩
  | .local _ .vmem, ⟨6, _⟩ => ⟨S12288x2560, .bf16⟩
  | .local _ .vmem, ⟨7, _⟩ => ⟨S12288x2560, .bf16⟩
  | .local _ .vmem, ⟨8, _⟩ => ⟨S12288x2560, .bf16⟩
  | .local _ .vmem, ⟨9, _⟩ => ⟨S12288x2560, .fp8e4m3⟩
  | .local _ .vmem, ⟨10, _⟩ => ⟨S24x1x512, .f32⟩
  | _, _ => ⟨S12288x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17_0 : Ref sig .tc := ⟨.hbm, 24, rfl⟩
abbrev main_v17_1 : Ref sig .tc := ⟨.hbm, 25, rfl⟩
abbrev main_v17_2 : Ref sig .tc := ⟨.hbm, 26, rfl⟩
abbrev main_v17_3 : Ref sig .tc := ⟨.hbm, 27, rfl⟩
abbrev main_v17_4 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S12288x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7680x2560 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x7680 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x2560 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12288x2560 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12288x2560 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12288x2560 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S24x1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== OProj.lean ====
abbrev S12288x2560 : Shape := ⟨2, ![12288, 2560]⟩
abbrev S24x1x512 : Shape := ⟨3, ![24, 1, 512]⟩
abbrev S2560x2560 : Shape := ⟨2, ![2560, 2560]⟩
abbrev S1x2560 : Shape := ⟨2, ![1, 2560]⟩
abbrev S512x2560 : Shape := ⟨2, ![512, 2560]⟩
abbrev S1x1x512 : Shape := ⟨3, ![1, 1, 512]⟩
abbrev S256x2560 : Shape := ⟨2, ![256, 2560]⟩
abbrev S1x512 : Shape := ⟨2, ![1, 512]⟩
abbrev S1x128 : Shape := ⟨2, ![1, 128]⟩
abbrev S128x128 : Shape := ⟨2, ![128, 128]⟩
abbrev S128x1 : Shape := ⟨2, ![128, 1]⟩
abbrev S512x1 : Shape := ⟨2, ![512, 1]⟩
abbrev S512x512 : Shape := ⟨2, ![512, 512]⟩
abbrev S128x2560 : Shape := ⟨2, ![128, 2560]⟩
abbrev S128 : Shape := ⟨1, ![128]⟩
abbrev S1x1x128 : Shape := ⟨3, ![1, 1, 128]⟩

abbrev nBuf : Space → Nat
  | .hbm => 9
  | .vmem => 17
  | .smem => 0
  | _ => 0

abbrev bufTy : (tb : Table) → Fin (tcTables nBuf tb) → BufTy
  | .hbm, ⟨0, _⟩ => ⟨S12288x2560, .fp8e4m3⟩
  | .hbm, ⟨1, _⟩ => ⟨S24x1x512, .f32⟩
  | .hbm, ⟨2, _⟩ => ⟨S2560x2560, .fp8e4m3⟩
  | .hbm, ⟨3, _⟩ => ⟨S1x2560, .f32⟩
  | .hbm, ⟨4, _⟩ => ⟨S12288x2560, .bf16⟩
  | .hbm, ⟨5, _⟩ => ⟨S1x2560, .f32⟩
  | .hbm, ⟨6, _⟩ => ⟨S12288x2560, .f32⟩
  | .hbm, ⟨7, _⟩ => ⟨S12288x2560, .fp8e4m3⟩
  | .hbm, ⟨8, _⟩ => ⟨S24x1x512, .f32⟩
  | .local _ .vmem, ⟨0, _⟩ => ⟨S512x2560, .fp8e4m3⟩
  | .local _ .vmem, ⟨1, _⟩ => ⟨S512x2560, .fp8e4m3⟩
  | .local _ .vmem, ⟨2, _⟩ => ⟨S1x1x512, .f32⟩
  | .local _ .vmem, ⟨3, _⟩ => ⟨S1x1x512, .f32⟩
  | .local _ .vmem, ⟨4, _⟩ => ⟨S2560x2560, .fp8e4m3⟩
  | .local _ .vmem, ⟨5, _⟩ => ⟨S1x2560, .f32⟩
  | .local _ .vmem, ⟨6, _⟩ => ⟨S512x2560, .bf16⟩
  | .local _ .vmem, ⟨7, _⟩ => ⟨S512x2560, .bf16⟩
  | .local _ .vmem, ⟨8, _⟩ => ⟨S1x2560, .f32⟩
  | .local _ .vmem, ⟨9, _⟩ => ⟨S512x2560, .f32⟩
  | .local _ .vmem, ⟨10, _⟩ => ⟨S512x2560, .f32⟩
  | .local _ .vmem, ⟨11, _⟩ => ⟨S512x2560, .fp8e4m3⟩
  | .local _ .vmem, ⟨12, _⟩ => ⟨S512x2560, .fp8e4m3⟩
  | .local _ .vmem, ⟨13, _⟩ => ⟨S1x1x512, .f32⟩
  | .local _ .vmem, ⟨14, _⟩ => ⟨S1x1x512, .f32⟩
  | .local _ .vmem, ⟨15, _⟩ => ⟨S2560x2560, .bf16⟩
  | .local _ .vmem, ⟨16, _⟩ => ⟨S512x2560, .f32⟩
  | _, _ => ⟨S12288x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2560 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2560x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2560 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OProjRefIdeal.lean ====
abbrev S12288x2560 : Shape := ⟨2, ![12288, 2560]⟩
abbrev S24x1x512 : Shape := ⟨3, ![24, 1, 512]⟩
abbrev S2560x2560 : Shape := ⟨2, ![2560, 2560]⟩
abbrev S1x2560 : Shape := ⟨2, ![1, 2560]⟩
abbrev S12288x1 : Shape := ⟨2, ![12288, 1]⟩
abbrev S12288 : Shape := ⟨1, ![12288]⟩

abbrev nBuf : Space → Nat
  | .hbm => 10
  | .vmem => 9
  | .smem => 0
  | _ => 0

abbrev bufTy : (tb : Table) → Fin (tcTables nBuf tb) → BufTy
  | .hbm, ⟨0, _⟩ => ⟨S12288x2560, .fp8e4m3⟩
  | .hbm, ⟨1, _⟩ => ⟨S24x1x512, .f32⟩
  | .hbm, ⟨2, _⟩ => ⟨S2560x2560, .fp8e4m3⟩
  | .hbm, ⟨3, _⟩ => ⟨S1x2560, .f32⟩
  | .hbm, ⟨4, _⟩ => ⟨S12288x2560, .bf16⟩
  | .hbm, ⟨5, _⟩ => ⟨S1x2560, .f32⟩
  | .hbm, ⟨6, _⟩ => ⟨S12288x1, .f32⟩
  | .hbm, ⟨7, _⟩ => ⟨S12288x2560, .f32⟩
  | .hbm, ⟨8, _⟩ => ⟨S12288x2560, .fp8e4m3⟩
  | .hbm, ⟨9, _⟩ => ⟨S24x1x512, .f32⟩
  | .local _ .vmem, ⟨0, _⟩ => ⟨S12288x2560, .fp8e4m3⟩
  | .local _ .vmem, ⟨1, _⟩ => ⟨S12288x1, .f32⟩
  | .local _ .vmem, ⟨2, _⟩ => ⟨S2560x2560, .fp8e4m3⟩
  | .local _ .vmem, ⟨3, _⟩ => ⟨S1x2560, .f32⟩
  | .local _ .vmem, ⟨4, _⟩ => ⟨S12288x2560, .bf16⟩
  | .local _ .vmem, ⟨5, _⟩ => ⟨S1x2560, .f32⟩
  | .local _ .vmem, ⟨6, _⟩ => ⟨S12288x2560, .f32⟩
  | .local _ .vmem, ⟨7, _⟩ => ⟨S12288x2560, .fp8e4m3⟩
  | .local _ .vmem, ⟨8, _⟩ => ⟨S24x1x512, .f32⟩
  | _, _ => ⟨S12288x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S12288x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2560x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x2560 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12288x2560 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S24x1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Quant.lean ====
/- The power-of-two quantiser on one extended real: the scale a row's largest magnitude gives. The kernel finds the
   exponent field of its argument by a binary search over the eight bits of the field; the reference takes the floor
   of a logarithm. Both give the same scale and the same inverse scale at every extended real. -/
module

public import Idealize.ShloMosaic.PureOps.Ideal
public import Idealize.ShloMosaic.Lib.Pointwise

@[expose] public section

noncomputable section

namespace Cert.Quant

open Idealize.ShloMosaic

/-- The float whose exponent field is `b` and whose other bits are zero. -/
def pw (b : BitVec 32) : EReal := Ideal.ofBits .f32 (b <<< 23#32)

/-- `a ≥ x` as a bit. -/
def ge (a x : EReal) : BitVec 1 := Ideal.cmp .oge a x

/-- One step of the search: add `p` to the exponent field found so far if the power of two stays at most `a`. -/
def kstep (a : EReal) (p b : BitVec 32) : BitVec 32 := Scalar.select (ge a (pw (b + p))) (b + p) b

/-- The search over the eight bits, without the last cut. -/
def ksearch (a : EReal) : BitVec 32 :=
  kstep a 1#32 (kstep a 2#32 (kstep a 4#32 (kstep a 8#32 (kstep a 16#32 (kstep a 32#32 (kstep a 64#32 (kstep a 128#32 0#32)))))))

/-- The exponent field the kernel uses: the search, and 255 from `2 ^ 120` on. -/
def kbiased (a : EReal) : BitVec 32 := Scalar.select (ge a (Ideal.ofBits .f32 0x7B800000#32)) 255#32 (ksearch a)

/-- The exponent of the scale from an exponent field: 0 for the fields 0 and 255. -/
def kexpOf (b : BitVec 32) : BitVec 32 :=
  Scalar.select (IntOp.ori (IntOp.cmpi .eq b 0#32) (IntOp.cmpi .eq b 255#32)) 0#32 (b - 126#32)

/-- The kernel's scale. -/
def kscale (a : EReal) : EReal := pw (127#32 + kexpOf (kbiased a))

/-- The kernel's inverse scale. -/
def kinv (a : EReal) : EReal := pw (127#32 - kexpOf (kbiased a))

/-- The reference's exponent. -/
def rexp (a : EReal) : EReal :=
  Scalar.select (IntOp.andi (ge a (Ideal.ofBits .f32 0x00800000#32)) (Ideal.cmp .olt a (Ideal.ofBits .f32 0x7B800000#32)))
    (Ideal.liftRound Int.floor (Ideal.div (Ideal.log a) ((Real.log 2 : ℝ) : EReal)) + Ideal.ofBits .f32 0x3F800000#32)
    (Ideal.ofBits .f32 0x00000000#32)

/-- The reference's scale. -/
def rscale (a : EReal) : EReal := Ideal.exp2 (rexp a)

/-- The reference's inverse scale. -/
def rinv (a : EReal) : EReal := Ideal.exp2 (Ideal.ofBits .f32 0x00000000#32 - rexp a)

theorem pw_fields : ∀ n : Fin 256, ((BitVec.ofNat 32 n.val) <<< 23#32).extractLsb' 31 1 = 0#1
    ∧ (((BitVec.ofNat 32 n.val) <<< 23#32).extractLsb' 23 8).toNat = n.val
    ∧ (((BitVec.ofNat 32 n.val) <<< 23#32).extractLsb' 0 23).toNat = 0 := by decide +kernel

/-- The float with exponent field `n`, `1 ≤ n ≤ 254`, is `2 ^ (n - 127)`. -/
theorem pw_ofNat (n : ℕ) (h1 : 1 ≤ n) (h2 : n ≤ 254) : pw (BitVec.ofNat 32 n) = (((2 : ℝ) ^ ((n : ℤ) - 127) : ℝ) : EReal) := by
  obtain ⟨ha, hb, hc⟩ := pw_fields ⟨n, by omega⟩
  simp only at ha hb hc
  unfold pw Ideal.ofBits Ideal.ieee
  simp only [hb, hc, show (8 + 23 : ℕ) = 31 from rfl, ha]
  rw [if_neg (by norm_num; omega), if_neg (by omega)]
  rw [EReal.coe_eq_coe_iff]
  have : ((n : ℤ) - (2 ^ (8 - 1) - 1) - (23 : ℕ)) = ((n : ℤ) - 127) - 23 := by norm_num
  rw [this, zpow_sub₀ (by norm_num : (2 : ℝ) ≠ 0)]
  norm_num
  exact mul_div_cancel₀ _ (by norm_num)

theorem pw_255 : pw (BitVec.ofNat 32 255) = ⊤ := by
  obtain ⟨ha, hb, hc⟩ := pw_fields ⟨255, by omega⟩
  simp only at ha hb hc
  unfold pw Ideal.ofBits Ideal.ieee
  simp only [hb, hc, show (8 + 23 : ℕ) = 31 from rfl, ha]
  simp

theorem select_ofBool (c : Prop) [Decidable c] {α : Type} (x y : α) :
    Scalar.select (BitVec.ofBool (decide c)) x y = if c then x else y := by
  unfold Scalar.select; by_cases h : c <;> simp [h]

/-- One step of the search keeps "the field found so far is `n` with its low bits cleared". -/
theorem kstep_toNat (a : EReal) (n : ℕ) (hn : n < 255)
    (H : ∀ k : ℕ, 1 ≤ k → k ≤ 255 → (pw (BitVec.ofNat 32 k) ≤ a ↔ k ≤ n))
    (p : ℕ) (b : ℕ) (hp : 1 ≤ p) (hb : b + p ≤ 255) :
    kstep a (BitVec.ofNat 32 p) (BitVec.ofNat 32 b) = BitVec.ofNat 32 (if b + p ≤ n then b + p else b) := by
  unfold kstep ge Ideal.cmp
  rw [select_ofBool, ← BitVec.ofNat_add]
  have := H (b + p) (by omega) hb
  by_cases h : b + p ≤ n
  · rw [if_pos (this.mpr h), if_pos h]
  · rw [if_neg (fun hh => h (this.mp hh)), if_neg h]

/-- The search finds the greatest exponent field whose power of two is at most `a`. -/
theorem ksearch_eq (a : EReal) (n : ℕ) (hn : n < 255)
    (H : ∀ k : ℕ, 1 ≤ k → k ≤ 255 → (pw (BitVec.ofNat 32 k) ≤ a ↔ k ≤ n)) : ksearch a = BitVec.ofNat 32 n := by
  have S := kstep_toNat a n hn H
  have e7 := S 128 0 (by omega) (by omega)
  have step : ∀ (p b : ℕ), 1 ≤ p → b + p ≤ 255 → b ≤ n → n < b + 2 * p →
      ∃ b', kstep a (BitVec.ofNat 32 p) (BitVec.ofNat 32 b) = BitVec.ofNat 32 b' ∧ b' ≤ n ∧ n < b' + p ∧ b ≤ b' ∧ b' ≤ b + p := by
    intro p b h1 h2 h3 h4
    refine ⟨_, S p b h1 h2, ?_⟩
    split <;> omega
  obtain ⟨b7, h7, i7, j7, k7, l7⟩ := step 128 0 (by omega) (by omega) (by omega) (by omega)
  obtain ⟨b6, h6, i6, j6, k6, l6⟩ := step 64 b7 (by omega) (by omega) (by omega) (by omega)
  obtain ⟨b5, h5, i5, j5, k5, l5⟩ := step 32 b6 (by omega) (by omega) (by omega) (by omega)
  obtain ⟨b4, h4, i4, j4, k4, l4⟩ := step 16 b5 (by omega) (by omega) (by omega) (by omega)
  obtain ⟨b3, h3, i3, j3, k3, l3⟩ := step 8 b4 (by omega) (by omega) (by omega) (by omega)
  obtain ⟨b2, h2, i2, j2, k2, l2⟩ := step 4 b3 (by omega) (by omega) (by omega) (by omega)
  obtain ⟨b1, h1, i1, j1, k1, l1⟩ := step 2 b2 (by omega) (by omega) (by omega) (by omega)
  obtain ⟨b0, h0, i0, j0, k0, l0⟩ := step 1 b1 (by omega) (by omega) (by omega) (by omega)
  have hb : b0 = n := by omega
  subst hb
  unfold ksearch
  rw [show (0#32 : BitVec 32) = BitVec.ofNat 32 0 from rfl]
  rw [h7, h6, h5, h4, h3, h2, h1, h0]

theorem cut_eq : Ideal.ofBits .f32 0x7B800000#32 = pw (BitVec.ofNat 32 247) := rfl
theorem low_eq : Ideal.ofBits .f32 0x00800000#32 = pw (BitVec.ofNat 32 1) := rfl

theorem one_eq : Ideal.ofBits .f32 0x3F800000#32 = ((1 : ℝ) : EReal) := by
  rw [show Ideal.ofBits .f32 0x3F800000#32 = pw (BitVec.ofNat 32 127) from rfl, pw_ofNat 127 (by omega) (by omega)]
  norm_num

theorem kexpOf_fields : ∀ n : Fin 246, kexpOf (BitVec.ofNat 32 (n.val + 1)) = BitVec.ofInt 32 ((n.val : ℤ) + 1 - 126)
    ∧ 127#32 + BitVec.ofInt 32 ((n.val : ℤ) + 1 - 126) = BitVec.ofNat 32 (n.val + 2)
    ∧ 127#32 - BitVec.ofInt 32 ((n.val : ℤ) + 1 - 126) = BitVec.ofNat 32 (252 - n.val) := by decide +kernel

theorem pw_127 : pw 127#32 = 1 := by
  have := pw_ofNat 127 (by omega) (by omega)
  norm_num at this
  exact this

/-- The scales off the range: both programs use 1. -/
theorem scale_off (a : EReal) (hk : kexpOf (kbiased a) = 0#32) (hr : rexp a = 0) : kscale a = rscale a ∧ kinv a = rinv a := by
  unfold kscale kinv rscale rinv
  rw [hk, hr, Ideal.ofBits_zero_f32, show (127#32 + 0#32 : BitVec 32) = 127#32 from rfl,
    show (127#32 - 0#32 : BitVec 32) = 127#32 from rfl, pw_127, sub_zero, show (0 : EReal) = ((0 : ℝ) : EReal) from rfl,
    Ideal.exp2_coe]
  simp

/-- The kernel's scale and inverse scale are the reference's, at every extended real. -/
theorem scale_both (a : EReal) : kscale a = rscale a ∧ kinv a = rinv a := by
  by_cases hc : Ideal.ofBits .f32 0x7B800000#32 ≤ a
  · refine scale_off a ?_ ?_
    · unfold kbiased ge Ideal.cmp
      rw [select_ofBool, if_pos hc]; rfl
    · unfold rexp ge Ideal.cmp
      simp only [decide_eq_false (not_lt.mpr hc)]
      rw [Ideal.ofBits_zero_f32]
      cases decide (Ideal.ofBits .f32 0x00800000#32 ≤ a) <;> simp [Scalar.select, IntOp.andi]
  have hkb : kbiased a = ksearch a := by
    unfold kbiased ge Ideal.cmp
    rw [select_ofBool, if_neg hc]
  by_cases hl : Ideal.ofBits .f32 0x00800000#32 ≤ a
  swap
  · refine scale_off a ?_ ?_
    · rw [hkb, ksearch_eq a 0 (by omega)]
      · rfl
      · intro k h1 h2
        refine iff_of_false (fun h => hl (le_trans ?_ h)) (by omega)
        rw [low_eq, pw_ofNat 1 (by omega) (by omega)]
        by_cases h5 : k = 255
        · subst h5; rw [pw_255]; exact le_top
        · rw [pw_ofNat k h1 (by omega), EReal.coe_le_coe_iff]
          exact zpow_le_zpow_right₀ (by norm_num) (by push_cast; omega)
    · unfold rexp ge Ideal.cmp
      simp only [decide_eq_false hl]
      rw [Ideal.ofBits_zero_f32]
      cases decide (a < Ideal.ofBits .f32 0x7B800000#32) <;> simp [Scalar.select, IntOp.andi]
  have hc' := hc
  have hl' := hl
  rw [cut_eq, pw_ofNat 247 (by omega) (by omega)] at hc
  rw [low_eq, pw_ofNat 1 (by omega) (by omega)] at hl
  induction a with
  | bot => simp at hl
  | top => exact absurd le_top hc
  | coe r =>
    rw [EReal.coe_le_coe_iff] at hc hl
    have hr0 : 0 < r := lt_of_lt_of_le (by positivity) hl
    have hlog2 : 0 < Real.log 2 := Real.log_pos (by norm_num)
    -- the exponent
    obtain ⟨z, hz⟩ : ∃ z : ℤ, z = ⌊Real.log r / Real.log 2⌋ := ⟨_, rfl⟩
    have key : ∀ j : ℤ, (2 : ℝ) ^ j ≤ r ↔ j ≤ z := by
      intro j
      rw [hz, Int.le_floor, le_div_iff₀ hlog2, ← Real.log_zpow, Real.log_le_log_iff (by positivity) hr0]
    have hz1 : -126 ≤ z := (key _).mp (by simpa using hl)
    have hz2 : z < 120 := by
      by_contra h
      exact hc ((key _).mpr (by push_cast; omega))
    obtain ⟨n, hn⟩ : ∃ n : Fin 246, (n.val : ℤ) + 1 = z + 127 := ⟨⟨(z + 126).toNat, by omega⟩, by simp; omega⟩
    have hs : ksearch (r : EReal) = BitVec.ofNat 32 (n.val + 1) := by
      refine ksearch_eq _ _ (by omega) fun k h1 h2 => ?_
      by_cases h5 : k = 255
      · subst h5; rw [pw_255]
        exact iff_of_false (by simp) (by omega)
      · rw [pw_ofNat k h1 (by omega), EReal.coe_le_coe_iff, key]
        omega
    obtain ⟨f1, f2, f3⟩ := kexpOf_fields n
    have hre : rexp (r : EReal) = (((z + 1 : ℤ) : ℝ) : EReal) := by
      unfold rexp ge Ideal.cmp
      simp only [decide_eq_true hl', decide_eq_true (not_le.mp hc')]
      rw [show Scalar.select (IntOp.andi (BitVec.ofBool true) (BitVec.ofBool true)) _ _ = _ from if_pos rfl]
      rw [Ideal.log_coe, if_neg (not_le.mpr hr0)]
      unfold Ideal.div
      rw [if_neg (by rw [← EReal.coe_zero, EReal.coe_eq_coe_iff]; exact hlog2.ne'), ← EReal.coe_inv, ← EReal.coe_mul]
      rw [Ideal.liftRound_coe, one_eq, ← div_eq_mul_inv, ← hz, ← EReal.coe_add, EReal.coe_eq_coe_iff]
      push_cast; rfl
    constructor
    · unfold kscale rscale
      rw [hkb, hs, f1, f2, hre, Ideal.exp2_coe, pw_ofNat _ (by omega) (by omega)]
      congr 1
      rw [← Real.rpow_intCast]
      show _ = (2 : ℝ) ^ (((z + 1 : ℤ) : ℝ))
      congr 2; push_cast; omega
    · unfold kinv rinv
      rw [hkb, hs, f1, f3, hre, Ideal.ofBits_zero_f32, zero_sub, ← EReal.coe_neg, Ideal.exp2_coe, pw_ofNat _ (by omega) (by omega)]
      congr 1
      rw [← Real.rpow_intCast]
      show _ = (2 : ℝ) ^ (-((z + 1 : ℤ) : ℝ))
      congr 1
      rw [← Int.cast_neg]
      congr 1
      have := n.isLt
      push_cast [Nat.cast_sub (show n.val ≤ 252 by omega)]; omega

theorem kscale_eq (a : EReal) : kscale a = rscale a := (scale_both a).1
theorem kinv_eq (a : EReal) : kinv a = rinv a := (scale_both a).2

end Cert.Quant

end
-- ==== Proof.Spec.lean ====
/- The mathematics both programs compute, over the extended reals: the quantiser of one row, in terms of the row's
   largest magnitude. -/
module

public import proofs.«01_k».proof.Proof.Quant
public import Idealize.ShloMosaic.Lib.Pipeline.ValueKit

@[expose] public section

noncomputable section

namespace Cert.Spec

open Idealize.ShloMosaic

/-- The largest magnitude of a row. -/
def amax {ι : Type} [Fintype ι] (v : ι → EReal) : EReal := Finset.univ.sup fun j => max (v j) (-v j)

/-- What the quantiser takes the exponent of: the largest magnitude times the constant 1/448. -/
def qin {ι : Type} [Fintype ι] (v : ι → EReal) : EReal := amax v * Ideal.ofBits .f32 0x3B124925#32

/-- The scale of a row. -/
def qscale {ι : Type} [Fintype ι] (v : ι → EReal) : EReal := Quant.rscale (qin v)

/-- The code of entry `j` of a row. -/
def qcode {ι : Type} [Fintype ι] (v : ι → EReal) (j : ι) : EReal :=
  min (Ideal.ofBits .f32 0x43E00000#32) (max (Ideal.ofBits .f32 0xC3E00000#32) (v j * Quant.rinv (qin v)))

theorem ninf_eq : Ideal.ofBits .f32 0xFF800000#32 = ⊥ := by
  unfold Ideal.ofBits Ideal.ieee
  simp

/-- A maximum folded from minus infinity is the supremum. -/
theorem fold_eq {ι : Type} [Fintype ι] (f : ι → EReal) :
    Finset.fold max (Ideal.ofBits .f32 0xFF800000#32) f Finset.univ = Finset.univ.sup f := by
  rw [ninf_eq]; rfl

/-- The largest of `f 0, …, f n`. -/
def mx (f : ℕ → EReal) : ℕ → EReal
  | 0 => f 0
  | n + 1 => max (mx f n) (f (n + 1))

theorem mx_le (f : ℕ → EReal) (b : EReal) : ∀ n, mx f n ≤ b ↔ ∀ k ≤ n, f k ≤ b
  | 0 => ⟨fun h k hk => by rw [Nat.le_zero.mp hk]; exact h, fun h => h 0 le_rfl⟩
  | n + 1 => by
    rw [mx, max_le_iff, mx_le f b n]
    constructor
    · rintro ⟨h1, h2⟩ k hk
      rcases Nat.lt_or_ge k (n + 1) with h | h
      · exact h1 k (by omega)
      · rw [show k = n + 1 by omega]; exact h2
    · exact fun h => ⟨fun k hk => h k (by omega), h _ le_rfl⟩

/-- The largest magnitude of a row of `w * (n + 1)` entries taken lane by lane: over `w` lanes the largest, over the
    `n + 1` groups of `w` entries, of the magnitude in that lane. -/
theorem amax_lanes {w n N : ℕ} (hN : w * (n + 1) = N) (g : ℕ → EReal) :
    (Finset.univ.sup fun l : Fin w => mx (fun k => max (g (w * k + l)) (-g (w * k + l))) n)
      = amax fun j : Fin N => g j := by
  unfold amax
  refine le_antisymm (Finset.sup_le fun l _ => (mx_le _ _ _).mpr fun k hk => ?_) (Finset.sup_le fun j _ => ?_)
  · have hlt : w * k + l < N := by
      have h1 : w * k ≤ w * n := Nat.mul_le_mul_left _ hk
      have := l.isLt
      rw [← hN, Nat.mul_add]; omega
    exact Finset.le_sup (f := fun j : Fin N => max (g j) (-g j)) (Finset.mem_univ (⟨w * k + l, hlt⟩ : Fin N))
  · have hw : 0 < w := by
      rcases Nat.eq_zero_or_pos w with h | h
      · exfalso; have h' : j.val < w * (n + 1) := lt_of_lt_of_eq j.isLt hN.symm; rw [h, Nat.zero_mul] at h'; omega
      · exact h
    have hle := (mx_le (fun k => max (g (w * k + (j : ℕ) % w)) (-g (w * k + (j : ℕ) % w))) _ n).mp le_rfl (j / w)
      (Nat.lt_succ_iff.mp (Nat.div_lt_of_lt_mul (lt_of_lt_of_eq j.isLt hN.symm)))
    simp only [Nat.div_add_mod] at hle
    exact hle.trans (Finset.le_sup (f := fun l : Fin w => mx (fun k => max (g (w * k + l)) (-g (w * k + l))) n)
      (Finset.mem_univ (⟨(j : ℕ) % w, Nat.mod_lt _ hw⟩ : Fin w)))

/-- One step of the exponent search on a vector. -/
def vstep {s : Shape} (A : FVec Ideal s .f32) (p : BitVec 32) (b : IVec s 32) : IVec s 32 :=
  fun i => Quant.kstep (A i) p (b i)

/-- The vector operations of one step of the search. -/
theorem vstep_eq {s : Shape} (A : FVec Ideal s .f32) (p : BitVec 32) (b : IVec s 32) :
    select (cmpf .oge A (bitcastToFloat .f32 (shli (addi b (broadcast s p)) (broadcast s 23#32)))) (addi b (broadcast s p)) b
      = vstep A p b := rfl

/-- The search with its last cut, on a vector. -/
theorem vfield_eq {s : Shape} (A : FVec Ideal s .f32) :
    select (cmpf .oge A (broadcast s (Scalar.ofBits .f32 0x7B800000#32))) (broadcast s 255#32)
        (vstep A 1#32 (vstep A 2#32 (vstep A 4#32 (vstep A 8#32 (vstep A 16#32 (vstep A 32#32 (vstep A 64#32
          (vstep A 128#32 (broadcast s 0#32)))))))))
      = fun i => Quant.kbiased (A i) := rfl

/-- The exponents from the exponent fields, on a vector. -/
theorem vexp_eq {s : Shape} (b : IVec s 32) :
    select (ori (cmpi .eq b (broadcast s 0#32)) (cmpi .eq b (broadcast s 255#32))) (broadcast s 0#32) (subi b (broadcast s 126#32))
      = fun i => Quant.kexpOf (b i) := rfl

/-- The scales from the exponent fields, on a vector. -/
theorem vscale_eq {s : Shape} (A : FVec Ideal s .f32) :
    bitcastToFloat (F := Ideal) .f32 (shli (addi (broadcast s 127#32) (fun i => Quant.kexpOf (Quant.kbiased (A i)))) (broadcast s 23#32))
      = fun i => Quant.kscale (A i) := rfl

/-- The inverse scales from the exponent fields, on a vector. -/
theorem vinv_eq {s : Shape} (A : FVec Ideal s .f32) :
    bitcastToFloat (F := Ideal) .f32 (shli (subi (broadcast s 127#32) (fun i => Quant.kexpOf (Quant.kbiased (A i)))) (broadcast s 23#32))
      = fun i => Quant.kinv (A i) := rfl

end Cert.Spec

end
-- ==== Proof.UpPure.lean ====
/- What one grid point of the up projection computes, read at an index: the vector payloads of the kernel as the
   mathematics of one row. -/
module

public import proofs.«01_k».proof.Proof.Gen.UpIdeal.Skeleton
public import proofs.«01_k».proof.Proof.Spec
public import Idealize.ShloMosaic.Lib.Pipeline.ValueKit

@[expose] public section

set_option maxRecDepth 16384

noncomputable section

open Idealize.ShloMosaic Idealize.ShloMosaic.TcCoe Idealize.SL.Sem

namespace Cert.Spec

/-- One entry of the gated product of the up projection: a row `a` of codes with scale `h`, the two weight rows with
    their scales, and the two channel factors. -/
def upM (a w0 w1 : Fin 2560 → EReal) (h ws0 ws1 su sv : EReal) : EReal :=
  su * ((∑ k, a k * w0 k) * (h * ws0)) *
    (sv * Ideal.ofBits .f32 0x424A62C2#32 * ((∑ k, a k * w1 k) * (h * ws1)) *
      Ideal.logistic (sv * Ideal.ofBits .f32 0x424A62C2#32 * ((∑ k, a k * w1 k) * (h * ws1))))

end Cert.Spec

namespace Cert.UpIdeal.Pure

open Cert.UpIdeal Cert.UpIdeal.Gen Cert.Spec

variable (x0 : FVec Ideal S256x2560 .fp8e4m3) (x1 : FVec Ideal S1x1x256 .f32) (X2 : FVec Ideal S2x6912x2560 .fp8e4m3)
  (X3 : FVec Ideal S2x6912 .f32) (X4 X5 : FVec Ideal S1x6912 .f32)

/-- The gated product of row `r` at column `j`. -/
def row (r : Fin 256) (j : Fin 6912) : EReal :=
  upM (fun k => x0 (ix2 r k)) (fun k => X2 (ix3 0 j k)) (fun k => X2 (ix3 1 j k)) (x1 (ix3 0 0 r)) (X3 (ix2 0 j)) (X3 (ix2 1 j))
    (X4 (ix2 0 j)) (X5 (ix2 0 j))

/-- The same at a natural number, minus infinity past the last column. -/
def rowN (r : Fin 256) (j : ℕ) : EReal := if h : j < 6912 then row x0 x1 X2 X3 X4 X5 r ⟨j, h⟩ else ⊥

/-- The block of 256 columns at `o` of the gated product, as the kernel computes it. -/
def B (o : ℕ) (h2a : ∀ a, (![0, o, 0] : Fin 3 → Nat) a + S1x256x2560.size a ≤ S2x6912x2560.size a)
    (h2b : ∀ a, (![1, o, 0] : Fin 3 → Nat) a + S1x256x2560.size a ≤ S2x6912x2560.size a)
    (h4 : ∀ a, (![0, o] : Fin 2 → Nat) a + S1x256.size a ≤ S1x6912.size a)
    (h3a : ∀ a, (![0, o] : Fin 2 → Nat) a + S1x256.size a ≤ S2x6912.size a)
    (h3b : ∀ a, (![1, o] : Fin 2 → Nat) a + S1x256.size a ≤ S2x6912.size a) : FVec Ideal S256x256 .f32 :=
  k0_pay10 x0 (k0_pay3 x1)
    (View.ld (S := S2x6912x2560) (Val := Elt Ideal) (e' := .fp8e4m3) X2 (Rect.unit (s := S2x6912x2560) ![0, o, 0] ![1, 256, 2560] h2a))
    (View.ld (S := S2x6912x2560) (Val := Elt Ideal) (e' := .fp8e4m3) X2 (Rect.unit (s := S2x6912x2560) ![1, o, 0] ![1, 256, 2560] h2b))
    (View.ld (S := S1x6912) (Val := Elt Ideal) (e' := .f32) X4 (Rect.unit (s := S1x6912) ![0, o] ![1, 256] h4))
    (View.ld (S := S2x6912) (Val := Elt Ideal) (e' := .f32) X3 (Rect.unit (s := S2x6912) ![0, o] ![1, 256] h3a))
    (View.ld (S := S1x6912) (Val := Elt Ideal) (e' := .f32) X5 (Rect.unit (s := S1x6912) ![0, o] ![1, 256] h4))
    (View.ld (S := S2x6912) (Val := Elt Ideal) (e' := .f32) X3 (Rect.unit (s := S2x6912) ![1, o] ![1, 256] h3b))

/-- The block at `o` holds the gated product at the columns from `o` on. -/
theorem B_at (o : ℕ) (h2a h2b h4 h3a h3b) (r l : Fin 256) :
    B x0 x1 X2 X3 X4 X5 o h2a h2b h4 h3a h3b (ix2 r l) = rowN x0 x1 X2 X3 X4 X5 r (o + l) := by
  have ho : o + l.val < 6912 := by
    have h := h4 1
    have h' : o + 256 ≤ 6912 := h
    omega
  have hs : ∀ r : Fin 256, (if h : r.val < 128 then x1 (ix3 0 0 r) else x1 (ix3 0 0 ⟨128 + (r.val - 128), by omega⟩)) = x1 (ix3 0 0 r) := by
    intro r
    by_cases h : r.val < 128
    · rw [dif_pos h]
    · rw [dif_neg h]; congr 2; exact Fin.ext (by simp; omega)
  unfold rowN row upM
  rw [dif_pos ho]
  pointwise [B, k0_pay10, k0_pay3, hs]

/-- The larger magnitude of the two halves of a block. -/
def am (b : FVec Ideal S256x256 .f32) : FVec Ideal S256x128 .f32 :=
  maximumf (absf (extractStridedSlice S256x128 ![0, 0] b slices_S256x256_o0_0_S256x128))
    (absf (extractStridedSlice S256x128 ![0, 128] b slices_S256x256_o0_128_S256x128))

theorem am_at (o : ℕ) (h2a h2b h4 h3a h3b) (r : Fin 256) (l : Fin 128) :
    am (B x0 x1 X2 X3 X4 X5 o h2a h2b h4 h3a h3b) (ix2 r l)
      = max (max (rowN x0 x1 X2 X3 X4 X5 r (o + l)) (-rowN x0 x1 X2 X3 X4 X5 r (o + l)))
          (max (rowN x0 x1 X2 X3 X4 X5 r (o + 128 + l)) (-rowN x0 x1 X2 X3 X4 X5 r (o + 128 + l))) := by
  have e1 := B_at x0 x1 X2 X3 X4 X5 o h2a h2b h4 h3a h3b r ⟨l, by omega⟩
  have e2 := B_at x0 x1 X2 X3 X4 X5 o h2a h2b h4 h3a h3b r ⟨128 + l, by omega⟩
  pointwise [am]
  rw [e1, e2, show o + (128 + l.val) = o + 128 + l by omega]
  rfl

/-- The lane-wise largest magnitude over the 27 blocks of a row. -/
def top : FVec Ideal S256x128 .f32 :=
  (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (am (B x0 x1 X2 X3 X4 X5 0 inb_S2x6912x2560_S1x256x2560_0_0_0 inb_S2x6912x2560_S1x256x2560_1_0_0 inb_S1x6912_S1x256_0_0 inb_S2x6912_S1x256_0_0 inb_S2x6912_S1x256_1_0))
    (am (B x0 x1 X2 X3 X4 X5 256 inb_S2x6912x2560_S1x256x2560_0_256_0 inb_S2x6912x2560_S1x256x2560_1_256_0 inb_S1x6912_S1x256_0_256 inb_S2x6912_S1x256_0_256 inb_S2x6912_S1x256_1_256)))
    (am (B x0 x1 X2 X3 X4 X5 512 inb_S2x6912x2560_S1x256x2560_0_512_0 inb_S2x6912x2560_S1x256x2560_1_512_0 inb_S1x6912_S1x256_0_512 inb_S2x6912_S1x256_0_512 inb_S2x6912_S1x256_1_512)))
    (am (B x0 x1 X2 X3 X4 X5 768 inb_S2x6912x2560_S1x256x2560_0_768_0 inb_S2x6912x2560_S1x256x2560_1_768_0 inb_S1x6912_S1x256_0_768 inb_S2x6912_S1x256_0_768 inb_S2x6912_S1x256_1_768)))
    (am (B x0 x1 X2 X3 X4 X5 1024 inb_S2x6912x2560_S1x256x2560_0_1024_0 inb_S2x6912x2560_S1x256x2560_1_1024_0 inb_S1x6912_S1x256_0_1024 inb_S2x6912_S1x256_0_1024 inb_S2x6912_S1x256_1_1024)))
    (am (B x0 x1 X2 X3 X4 X5 1280 inb_S2x6912x2560_S1x256x2560_0_1280_0 inb_S2x6912x2560_S1x256x2560_1_1280_0 inb_S1x6912_S1x256_0_1280 inb_S2x6912_S1x256_0_1280 inb_S2x6912_S1x256_1_1280)))
    (am (B x0 x1 X2 X3 X4 X5 1536 inb_S2x6912x2560_S1x256x2560_0_1536_0 inb_S2x6912x2560_S1x256x2560_1_1536_0 inb_S1x6912_S1x256_0_1536 inb_S2x6912_S1x256_0_1536 inb_S2x6912_S1x256_1_1536)))
    (am (B x0 x1 X2 X3 X4 X5 1792 inb_S2x6912x2560_S1x256x2560_0_1792_0 inb_S2x6912x2560_S1x256x2560_1_1792_0 inb_S1x6912_S1x256_0_1792 inb_S2x6912_S1x256_0_1792 inb_S2x6912_S1x256_1_1792)))
    (am (B x0 x1 X2 X3 X4 X5 2048 inb_S2x6912x2560_S1x256x2560_0_2048_0 inb_S2x6912x2560_S1x256x2560_1_2048_0 inb_S1x6912_S1x256_0_2048 inb_S2x6912_S1x256_0_2048 inb_S2x6912_S1x256_1_2048)))
    (am (B x0 x1 X2 X3 X4 X5 2304 inb_S2x6912x2560_S1x256x2560_0_2304_0 inb_S2x6912x2560_S1x256x2560_1_2304_0 inb_S1x6912_S1x256_0_2304 inb_S2x6912_S1x256_0_2304 inb_S2x6912_S1x256_1_2304)))
    (am (B x0 x1 X2 X3 X4 X5 2560 inb_S2x6912x2560_S1x256x2560_0_2560_0 inb_S2x6912x2560_S1x256x2560_1_2560_0 inb_S1x6912_S1x256_0_2560 inb_S2x6912_S1x256_0_2560 inb_S2x6912_S1x256_1_2560)))
    (am (B x0 x1 X2 X3 X4 X5 2816 inb_S2x6912x2560_S1x256x2560_0_2816_0 inb_S2x6912x2560_S1x256x2560_1_2816_0 inb_S1x6912_S1x256_0_2816 inb_S2x6912_S1x256_0_2816 inb_S2x6912_S1x256_1_2816)))
    (am (B x0 x1 X2 X3 X4 X5 3072 inb_S2x6912x2560_S1x256x2560_0_3072_0 inb_S2x6912x2560_S1x256x2560_1_3072_0 inb_S1x6912_S1x256_0_3072 inb_S2x6912_S1x256_0_3072 inb_S2x6912_S1x256_1_3072)))
    (am (B x0 x1 X2 X3 X4 X5 3328 inb_S2x6912x2560_S1x256x2560_0_3328_0 inb_S2x6912x2560_S1x256x2560_1_3328_0 inb_S1x6912_S1x256_0_3328 inb_S2x6912_S1x256_0_3328 inb_S2x6912_S1x256_1_3328)))
    (am (B x0 x1 X2 X3 X4 X5 3584 inb_S2x6912x2560_S1x256x2560_0_3584_0 inb_S2x6912x2560_S1x256x2560_1_3584_0 inb_S1x6912_S1x256_0_3584 inb_S2x6912_S1x256_0_3584 inb_S2x6912_S1x256_1_3584)))
    (am (B x0 x1 X2 X3 X4 X5 3840 inb_S2x6912x2560_S1x256x2560_0_3840_0 inb_S2x6912x2560_S1x256x2560_1_3840_0 inb_S1x6912_S1x256_0_3840 inb_S2x6912_S1x256_0_3840 inb_S2x6912_S1x256_1_3840)))
    (am (B x0 x1 X2 X3 X4 X5 4096 inb_S2x6912x2560_S1x256x2560_0_4096_0 inb_S2x6912x2560_S1x256x2560_1_4096_0 inb_S1x6912_S1x256_0_4096 inb_S2x6912_S1x256_0_4096 inb_S2x6912_S1x256_1_4096)))
    (am (B x0 x1 X2 X3 X4 X5 4352 inb_S2x6912x2560_S1x256x2560_0_4352_0 inb_S2x6912x2560_S1x256x2560_1_4352_0 inb_S1x6912_S1x256_0_4352 inb_S2x6912_S1x256_0_4352 inb_S2x6912_S1x256_1_4352)))
    (am (B x0 x1 X2 X3 X4 X5 4608 inb_S2x6912x2560_S1x256x2560_0_4608_0 inb_S2x6912x2560_S1x256x2560_1_4608_0 inb_S1x6912_S1x256_0_4608 inb_S2x6912_S1x256_0_4608 inb_S2x6912_S1x256_1_4608)))
    (am (B x0 x1 X2 X3 X4 X5 4864 inb_S2x6912x2560_S1x256x2560_0_4864_0 inb_S2x6912x2560_S1x256x2560_1_4864_0 inb_S1x6912_S1x256_0_4864 inb_S2x6912_S1x256_0_4864 inb_S2x6912_S1x256_1_4864)))
    (am (B x0 x1 X2 X3 X4 X5 5120 inb_S2x6912x2560_S1x256x2560_0_5120_0 inb_S2x6912x2560_S1x256x2560_1_5120_0 inb_S1x6912_S1x256_0_5120 inb_S2x6912_S1x256_0_5120 inb_S2x6912_S1x256_1_5120)))
    (am (B x0 x1 X2 X3 X4 X5 5376 inb_S2x6912x2560_S1x256x2560_0_5376_0 inb_S2x6912x2560_S1x256x2560_1_5376_0 inb_S1x6912_S1x256_0_5376 inb_S2x6912_S1x256_0_5376 inb_S2x6912_S1x256_1_5376)))
    (am (B x0 x1 X2 X3 X4 X5 5632 inb_S2x6912x2560_S1x256x2560_0_5632_0 inb_S2x6912x2560_S1x256x2560_1_5632_0 inb_S1x6912_S1x256_0_5632 inb_S2x6912_S1x256_0_5632 inb_S2x6912_S1x256_1_5632)))
    (am (B x0 x1 X2 X3 X4 X5 5888 inb_S2x6912x2560_S1x256x2560_0_5888_0 inb_S2x6912x2560_S1x256x2560_1_5888_0 inb_S1x6912_S1x256_0_5888 inb_S2x6912_S1x256_0_5888 inb_S2x6912_S1x256_1_5888)))
    (am (B x0 x1 X2 X3 X4 X5 6144 inb_S2x6912x2560_S1x256x2560_0_6144_0 inb_S2x6912x2560_S1x256x2560_1_6144_0 inb_S1x6912_S1x256_0_6144 inb_S2x6912_S1x256_0_6144 inb_S2x6912_S1x256_1_6144)))
    (am (B x0 x1 X2 X3 X4 X5 6400 inb_S2x6912x2560_S1x256x2560_0_6400_0 inb_S2x6912x2560_S1x256x2560_1_6400_0 inb_S1x6912_S1x256_0_6400 inb_S2x6912_S1x256_0_6400 inb_S2x6912_S1x256_1_6400)))
    (am (B x0 x1 X2 X3 X4 X5 6656 inb_S2x6912x2560_S1x256x2560_0_6656_0 inb_S2x6912x2560_S1x256x2560_1_6656_0 inb_S1x6912_S1x256_0_6656 inb_S2x6912_S1x256_0_6656 inb_S2x6912_S1x256_1_6656)))

/-- The column the quantiser takes the exponents of. -/
def acol (v : FVec Ideal S256x128 .f32) : FVec Ideal S256x1 .f32 :=
  mulf (shapeCast S256x1 (multiReduction .maximumf [1] S256 v 0xFF800000#32 reduces_S256x128_S256 (.inl rfl) rfl)
    shapeCasts_S256_S256x1) (broadcast S256x1 (Scalar.ofBits .f32 0x3B124925#32))

/-- Entry `r` of that column is the quantiser's argument for row `r`. -/
theorem acol_top (r : Fin 256) : acol (top x0 x1 X2 X3 X4 X5) (ix2 r 0) = qin (row x0 x1 X2 X3 X4 X5 r) := by
  have h : ∀ l : Fin 128, top x0 x1 X2 X3 X4 X5 (ix2 r l)
      = mx (fun k => max (rowN x0 x1 X2 X3 X4 X5 r (128 * k + l)) (-rowN x0 x1 X2 X3 X4 X5 r (128 * k + l))) 53 := by
    intro l
    have e : top x0 x1 X2 X3 X4 X5 (ix2 r l) = mx (fun k =>
        max (max (rowN x0 x1 X2 X3 X4 X5 r (256 * k + l)) (-rowN x0 x1 X2 X3 X4 X5 r (256 * k + l)))
          (max (rowN x0 x1 X2 X3 X4 X5 r (256 * k + 128 + l)) (-rowN x0 x1 X2 X3 X4 X5 r (256 * k + 128 + l)))) 26 := by
      simp only [top, maximumf_apply, am_at]
      rfl
    rw [e]
    refine le_antisymm ((mx_le _ _ _).mpr fun k hk => max_le ?_ ?_) ((mx_le _ _ _).mpr fun k hk => ?_)
    · have := (mx_le (fun k => max (rowN x0 x1 X2 X3 X4 X5 r (128 * k + l)) (-rowN x0 x1 X2 X3 X4 X5 r (128 * k + l))) _ 53).mp
        le_rfl (2 * k) (by omega)
      rwa [show 128 * (2 * k) = 256 * k by omega] at this
    · have := (mx_le (fun k => max (rowN x0 x1 X2 X3 X4 X5 r (128 * k + l)) (-rowN x0 x1 X2 X3 X4 X5 r (128 * k + l))) _ 53).mp
        le_rfl (2 * k + 1) (by omega)
      rwa [show 128 * (2 * k + 1) = 256 * k + 128 by omega] at this
    · have := (mx_le (fun k =>
        max (max (rowN x0 x1 X2 X3 X4 X5 r (256 * k + l)) (-rowN x0 x1 X2 X3 X4 X5 r (256 * k + l)))
          (max (rowN x0 x1 X2 X3 X4 X5 r (256 * k + 128 + l)) (-rowN x0 x1 X2 X3 X4 X5 r (256 * k + 128 + l)))) _ 26).mp
        le_rfl (k / 2) (by omega)
      obtain ⟨h1, h2⟩ := max_le_iff.mp this
      rcases Nat.mod_two_eq_zero_or_one k with h | h
      · rwa [show 256 * (k / 2) = 128 * k by omega] at h1
      · rwa [show 256 * (k / 2) + 128 = 128 * k by omega] at h2
  pointwise [acol]
  unfold qin
  rw [fold_eq]
  refine congrArg (· * _) ?_
  simp only [h]
  rw [amax_lanes (w := 128) (n := 53) (N := 6912) (by norm_num)]
  unfold rowN
  simp

/-- The scales the kernel derives from the column. -/
theorem kscale_col (v1 v2 v3 v4 v5 v6 v7) :
    k0_pay131 (F := Ideal) (k0_pay128 (k0_pay125 v1 v2 v3 v4 v5 v6 v7) (k0_pay126 v1 v2 v3 v4 v5 v6 v7) (k0_pay127 v1 v2 v3 v4 v5 v6 v7))
        (k0_pay129 (k0_pay125 v1 v2 v3 v4 v5 v6 v7) (k0_pay126 v1 v2 v3 v4 v5 v6 v7) (k0_pay127 v1 v2 v3 v4 v5 v6 v7))
      = fun i => Cert.Quant.kscale (k0_pay125 (F := Ideal) v1 v2 v3 v4 v5 v6 v7 i) := by
  simp only [k0_pay131, k0_pay130, k0_pay129, k0_pay128, k0_pay127, k0_pay126]
  rw [vstep_eq, vstep_eq, vstep_eq, vstep_eq, vstep_eq, vstep_eq, vstep_eq, vstep_eq, vfield_eq, vexp_eq, vscale_eq]

/-- The scaled and lower-clipped rows the kernel derives from the column and the rows. -/
theorem kinv_col (v1 v2 v3 v4 v5 v6 v7 v8) :
    k0_pay132 (F := Ideal) (k0_pay128 (k0_pay125 v1 v2 v3 v4 v5 v6 v7) (k0_pay126 v1 v2 v3 v4 v5 v6 v7) (k0_pay127 v1 v2 v3 v4 v5 v6 v7))
        (k0_pay129 (k0_pay125 v1 v2 v3 v4 v5 v6 v7) (k0_pay126 v1 v2 v3 v4 v5 v6 v7) (k0_pay127 v1 v2 v3 v4 v5 v6 v7)) v8
      = maximumf (broadcast S256x6912 (Scalar.ofBits .f32 0xC3E00000#32)) (mulf v8 (broadcastTo S256x6912
          (fun i => Cert.Quant.kinv (k0_pay125 (F := Ideal) v1 v2 v3 v4 v5 v6 v7 i)) broadcasts_S256x1_S256x6912)) := by
  simp only [k0_pay132, k0_pay130, k0_pay129, k0_pay128, k0_pay127, k0_pay126]
  rw [vstep_eq, vstep_eq, vstep_eq, vstep_eq, vstep_eq, vstep_eq, vstep_eq, vstep_eq, vfield_eq, vexp_eq, vinv_eq]

/-- The codes at row `r`, column `j`. -/
theorem codes_at (a : FVec Ideal S256x1 .f32) (v : FVec Ideal S256x6912 .f32) (r : Fin 256) (j : Fin 6912) :
    k0_pay1 (F := Ideal) (Scalar.ofBits .f32 0x43E00000#32) (maximumf (broadcast S256x6912 (Scalar.ofBits .f32 0xC3E00000#32))
        (mulf v (broadcastTo S256x6912 (fun i => Cert.Quant.kinv (a i)) broadcasts_S256x1_S256x6912))) (ix2 r j)
      = min (Ideal.ofBits .f32 0x43E00000#32) (max (Ideal.ofBits .f32 0xC3E00000#32) (v (ix2 r j) * Cert.Quant.rinv (a (ix2 r 0)))) := by
  rw [← Cert.Quant.kinv_eq]
  pointwise [k0_pay1]

/-- A column laid out as a row. -/
theorem colrow_at (v : FVec Ideal S256x1 .f32) (r : Fin 256) : k0_pay2 (F := Ideal) v (ix3 0 0 r) = v (ix2 r 0) := by
  pointwise [k0_pay2]
  by_cases h : r.val < 128
  · rw [dif_pos h]
  · rw [dif_neg h]; congr 2; exact Fin.ext (by simp; omega)

end Cert.UpIdeal.Pure

end
-- ==== Proof.UpPoint.lean ====
/- What the up projection's kernel leaves in its two output buffers at one grid point, entry by entry. -/
module

public import proofs.«01_k».proof.Proof.Gen.UpIdeal.Value
public import proofs.«01_k».proof.Proof.UpPure

@[expose] public section

set_option maxRecDepth 16384

noncomputable section

open Idealize.ShloMosaic Idealize.ShloMosaic.TcCoe Idealize.SL.Sem Idealize.ShloMosaic.Tactic

namespace Cert.UpIdeal.Pure

open Cert.UpIdeal Cert.UpIdeal.Gen Cert.Spec

variable (m : (ℓ : Loc nD τ sig) → Buf (Elt Ideal) ℓ)

/-- Row `r` of the gated product at grid point `t`. -/
def prow (c : Dev nD) (t : Fin cfg0.N) (r : Fin 256) : Fin 6912 → EReal :=
  row (iblk m c 0 t) (iblk m c 1 t) (iblk m c 2 t) (iblk m c 3 t) (iblk m c 4 t) (iblk m c 5 t) r

set_option maxHeartbeats 4000000 in
/-- The scale the kernel leaves for row `r` of point `t`'s block. -/
theorem point_scale (c : Dev nD) (t : Fin cfg0.N) (r : Fin 256) :
    (outsAt0 m c t).2 (ix3 0 0 r) = qscale (prow m c t r) := by
  unfold outsAt0
  frame_out
  rw [kscale_col]
  refine (colrow_at _ r).trans ?_
  refine (Cert.Quant.kscale_eq _).trans ?_
  unfold qscale
  refine congrArg Cert.Quant.rscale ?_
  exact acol_top (iblk m c 0 t) (iblk m c 1 t) (iblk m c 2 t) (iblk m c 3 t) (iblk m c 4 t) (iblk m c 5 t) r

/-- A stored block of the scratch, at the place the store puts it. -/
theorem piece_at (x0 : FVec Ideal S256x2560 .fp8e4m3) (x1 : FVec Ideal S1x1x256 .f32) (X2 : FVec Ideal S2x6912x2560 .fp8e4m3)
    (X3 : FVec Ideal S2x6912 .f32) (X4 X5 : FVec Ideal S1x6912 .f32) (o : ℕ) (h2a h2b h4 h3a h3b)
    (hR : ∀ a, (![0, o] : Fin 2 → Nat) a + S256x256.size a ≤ S256x6912.size a) (x : S256x256.Idx) :
    shapeCast S256x256 (B x0 x1 X2 X3 X4 X5 o h2a h2b h4 h3a h3b) shapeCasts_S256x256_S256x256 x
      = rowN x0 x1 X2 X3 X4 X5 ((Rect.unit (s := S256x6912) ![0, o] ![256, 256] hR).emb x 0)
          ((Rect.unit (s := S256x6912) ![0, o] ![256, 256] hR).emb x 1) := by
  obtain ⟨a, b, rfl⟩ : ∃ (a b : Fin 256), x = ix2 a b := ⟨x 0, x 1, eq_ix2 x⟩
  have e0 : (Rect.unit (s := S256x6912) ![0, o] ![256, 256] hR).emb (ix2 a b) 0 = a := Fin.ext (by
    show 0 + 1 * a.val = a.val
    omega)
  have e1 : ((Rect.unit (s := S256x6912) ![0, o] ![256, 256] hR).emb (ix2 a b) 1).val = o + b.val := by
    show o + 1 * b.val = o + b.val
    omega
  refine Eq.trans ?_ ((B_at x0 x1 X2 X3 X4 X5 o h2a h2b h4 h3a h3b a b).trans
    (congrArg₂ (fun (r : Fin 256) (j : ℕ) => rowN x0 x1 X2 X3 X4 X5 r j) e0.symm e1.symm))
  pointwise

set_option maxHeartbeats 8000000 in
/-- The code the kernel leaves at row `r`, column `j` of point `t`'s block. -/
theorem point_code (c : Dev nD) (t : Fin cfg0.N) (r : Fin 256) (j : Fin 6912) :
    (outsAt0 m c t).1 (ix2 r j) = qcode (prow m c t r) j := by
  unfold outsAt0
  frame_out
  rw [kinv_col]
  refine (codes_at _ _ r j).trans ?_
  unfold qcode
  refine congrArg (fun x : EReal => min _ (max _ x)) (congrArg₂ (fun x y : EReal => x * y) ?_ (congrArg Cert.Quant.rinv ?_))
  · rw [View.readCov_eq_canon_ld _ _ _ ?hc]
    case hc => exact fun y => View.cover_of_tiledL (s := S256x6912) _ ![256, 256] (by sl_kernel_rfl) y
    refine (View.canon_apply_of_pieces (fun y => rowN (iblk m c 0 t) (iblk m c 1 t) (iblk m c 2 t) (iblk m c 3 t) (iblk m c 4 t) (iblk m c 5 t) (y 0) (y 1)) _ ?_ _ ?_).trans ?_
    · iterate 27 refine List.forall_mem_cons.mpr ⟨fun x => piece_at (iblk m c 0 t) (iblk m c 1 t) (iblk m c 2 t) (iblk m c 3 t) (iblk m c 4 t) (iblk m c 5 t) _ (by decide) (by decide) (by decide) (by decide) (by decide) (by decide) x, ?_⟩
      exact fun p hp => absurd hp (List.not_mem_nil)
    · exact View.cover_of_tiledL (s := S256x6912) _ ![256, 256] (by sl_kernel_rfl) _
    · have e0 : (Rect.unit (s := S256x6912) ![0, 0] ![256, 6912] inb_S256x6912_S256x6912_0_0).idx (ix2 r j) = ix2 r j := by
        idx_ext
      rw [e0]
      exact dif_pos j.isLt
  · exact acol_top (iblk m c 0 t) (iblk m c 1 t) (iblk m c 2 t) (iblk m c 3 t) (iblk m c 4 t) (iblk m c 5 t) r

end Cert.UpIdeal.Pure

end
-- ==== Proof.UpFinal.lean ====
/- What the up projection's kernel leaves in its two result arrays. -/
module

public import proofs.«01_k».proof.Proof.UpPoint

@[expose] public section

set_option maxRecDepth 16384

noncomputable section

open Idealize.ShloMosaic Idealize.ShloMosaic.TcCoe Idealize.SL.Sem Idealize.ShloMosaic.Tactic

namespace Cert.Spec

/-- Row `R` of the gated product of the whole up projection. -/
def uprow (H : FVec Ideal ⟨2, ![12288, 2560]⟩ .fp8e4m3) (s : FVec Ideal ⟨3, ![48, 1, 256]⟩ .f32)
    (W : FVec Ideal ⟨3, ![2, 6912, 2560]⟩ .fp8e4m3) (ws : FVec Ideal ⟨2, ![2, 6912]⟩ .f32) (su sv : FVec Ideal ⟨2, ![1, 6912]⟩ .f32)
    (R : Fin 12288) (j : Fin 6912) : EReal :=
  upM (fun k => H (ix2 R k)) (fun k => W (ix3 0 j k)) (fun k => W (ix3 1 j k))
    (s (ix3 ⟨R.val / 256, by omega⟩ 0 ⟨R.val % 256, by omega⟩)) (ws (ix2 0 j)) (ws (ix2 1 j)) (su (ix2 0 j)) (sv (ix2 0 j))

/-- The codes of the whole up projection. -/
def upCodes (H : FVec Ideal ⟨2, ![12288, 2560]⟩ .fp8e4m3) (s : FVec Ideal ⟨3, ![48, 1, 256]⟩ .f32)
    (W : FVec Ideal ⟨3, ![2, 6912, 2560]⟩ .fp8e4m3) (ws : FVec Ideal ⟨2, ![2, 6912]⟩ .f32) (su sv : FVec Ideal ⟨2, ![1, 6912]⟩ .f32) :
    FVec Ideal ⟨2, ![12288, 6912]⟩ .fp8e4m3 := fun y => qcode (uprow H s W ws su sv (y 0)) (y 1)

/-- The scales of the whole up projection, 256 rows to a line. -/
def upScales (H : FVec Ideal ⟨2, ![12288, 2560]⟩ .fp8e4m3) (s : FVec Ideal ⟨3, ![48, 1, 256]⟩ .f32)
    (W : FVec Ideal ⟨3, ![2, 6912, 2560]⟩ .fp8e4m3) (ws : FVec Ideal ⟨2, ![2, 6912]⟩ .f32) (su sv : FVec Ideal ⟨2, ![1, 6912]⟩ .f32) :
    FVec Ideal ⟨3, ![48, 1, 256]⟩ .f32 := fun y => qscale (uprow H s W ws su sv ⟨(show Fin 48 from y 0).val * 256 + (show Fin 256 from y 2).val,
      by have h0 := (show Fin 48 from y 0).isLt; have h2 := (show Fin 256 from y 2).isLt; omega⟩)

end Cert.Spec

namespace Cert.UpIdeal.Pure

open Cert.UpIdeal Cert.UpIdeal.Gen Cert.Spec

variable (m : (ℓ : Loc nD τ sig) → Buf (Elt Ideal) ℓ)

theorem idx : ∀ t : Fin cfg0.N, win0_0.index t = ![t.val, 0] ∧ win0_1.index t = ![t.val, 0, 0] ∧ win0_2.index t = ![0, 0, 0]
    ∧ win0_3.index t = ![0, 0] ∧ win0_4.index t = ![0, 0] ∧ win0_5.index t = ![0, 0] ∧ win0_6.index t = ![t.val, 0]
    ∧ win0_7.index t = ![t.val, 0, 0] :=
  (by decide +kernel : ∀ t : Fin grid0.N, _)

/-- A row of a grid point's block is the row of the whole at its place. -/
theorem prow_eq (c : Dev nD) (t : Fin cfg0.N) (r : Fin 256) (R : Fin 12288) (hR : R.val = t.val * 256 + r.val) :
    prow m c t r = uprow (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) R := by
  funext j
  have h1 : R.val / 256 = t.val := by omega
  have h2 : R.val % 256 = r.val := by omega
  unfold prow row uprow upM
  blk_point [iblk, V, idx t]
  all_goals exact Ideal.mul_congr (by blk_ext [V, idx t]) (by blk_ext [V, idx t])

/-- The codes after the run. -/
theorem final6 (c : Dev nD) : (dats m 0 c).arrAt 6 cfg0.N
    = upCodes (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  obtain ⟨a, b, rfl⟩ : ∃ (a : Fin 256) (b : Fin 6912), y = ix2 a b := ⟨y 0, y 1, eq_ix2 y⟩
  refine (point_code m c t a b).trans ?_
  unfold upCodes
  have e0 : ((((cfg0.win 6).blk t).view.emb (ix2 a b)) 0).val = t.val * 256 + a.val := by blk_simp [idx t]
  have e1 : ((((cfg0.win 6).blk t).view.emb (ix2 a b)) 1) = b := Fin.ext (by blk_simp [idx t]; try omega)
  rw [prow_eq m c t a _ e0]
  exact congrArg (qcode _) e1.symm

/-- The scales after the run. -/
theorem final7 (c : Dev nD) : (dats m 0 c).arrAt 7 cfg0.N
    = upScales (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  obtain ⟨z, z', a, rfl⟩ : ∃ (z z' : Fin 1) (a : Fin 256), y = ix3 z z' a := ⟨y 0, y 1, y 2, eq_ix3 y⟩
  obtain rfl : z = 0 := Subsingleton.elim _ _
  obtain rfl : z' = 0 := Subsingleton.elim _ _
  refine (point_scale m c t a).trans ?_
  unfold upScales
  have e0 : ((((cfg0.win 7).blk t).view.emb (ix3 0 0 a)) 0).val = t.val := by blk_simp [idx t]; try omega
  have e2 : ((((cfg0.win 7).blk t).view.emb (ix3 0 0 a)) 2).val = a.val := by blk_simp [idx t]; try omega
  refine congrArg qscale (prow_eq m c t a _ ?_)
  exact congrArg₂ (fun x y : ℕ => x * 256 + y) e0 e2

end Cert.UpIdeal.Pure

end
-- ==== Proof.UpRef.lean ====
/- What the reference of the up projection leaves in its two result arrays. -/
module

public import proofs.«01_k».proof.Proof.Gen.UpRefIdeal.Frame
public import proofs.«01_k».proof.Proof.UpFinal

@[expose] public section

set_option maxRecDepth 16384

noncomputable section

open Idealize.ShloMosaic Idealize.ShloMosaic.TcCoe Idealize.SL.Sem Idealize.ShloMosaic.Tactic

namespace Cert.UpRefIdeal.Pure

open Cert.UpRefIdeal Cert.UpRefIdeal.Gen Cert.Spec

/-- The reference's exponent column is the scalar exponent entrywise. -/
theorem exp_at (v w : FVec Ideal S12288x1 .f32) (i : S12288x1.Idx) :
    k0_pay1 (F := Ideal) v w i = Cert.Quant.rexp ((show EReal from v i) * w i) := rfl

section
variable (H : FVec Ideal S12288x2560 .fp8e4m3) (h : FVec Ideal S12288x1 .f32) (w0 w1 : FVec Ideal S1x6912x2560 .fp8e4m3)
  (ws0 ws1 su sv : FVec Ideal S1x6912 .f32)

/-- The gated product the reference computes. -/
theorem m_at (r : Fin 12288) (j : Fin 6912) : k0_pay4 (F := Ideal) h H w0 ws0 H w1 ws1 su sv (ix2 r j)
    = upM (fun k => H (ix2 r k)) (fun k => w0 (ix3 0 j k)) (fun k => w1 (ix3 0 j k)) (h (ix2 r 0)) (ws0 (ix2 0 j)) (ws1 (ix2 0 j))
        (su (ix2 0 j)) (sv (ix2 0 j)) := by
  unfold upM
  pointwise [k0_pay4]

/-- A row of it. -/
def rrow (r : Fin 12288) (j : Fin 6912) : EReal :=
  upM (fun k => H (ix2 r k)) (fun k => w0 (ix3 0 j k)) (fun k => w1 (ix3 0 j k)) (h (ix2 r 0)) (ws0 (ix2 0 j)) (ws1 (ix2 0 j))
        (su (ix2 0 j)) (sv (ix2 0 j))

/-- The quantiser's argument for a row. -/
theorem q_at (r : Fin 12288) : (show EReal from k0_pay5 (F := Ideal) h H w0 ws0 H w1 ws1 su sv (ix2 r 0)) * k0_pay6 (F := Ideal) (ix2 r 0)
    = qin (rrow H h w0 w1 ws0 ws1 su sv r) := by
  have e : k0_pay5 (F := Ideal) h H w0 ws0 H w1 ws1 su sv (ix2 r 0) = amax (rrow H h w0 w1 ws0 ws1 su sv r) := by
    pointwise [k0_pay5]
    rw [fold_eq]
    unfold amax rrow
    refine congrArg _ (funext fun j => ?_)
    rw [m_at]
    rfl
  rw [e]
  rfl

end

theorem exp2_eq (x : EReal) : FloatOps.exp2 (F := Ideal) (φ := .f32) x = Ideal.exp2 x := rfl

/-- The codes from the rows and the column of largest magnitudes. -/
theorem code_at (v : FVec Ideal S12288x6912 .f32) (a w : FVec Ideal S12288x1 .f32) (r : Fin 12288) (j : Fin 6912) :
    k0_pay2 (F := Ideal) v a w (ix2 r j) = min (Ideal.ofBits .f32 0x43E00000#32) (max (Ideal.ofBits .f32 0xC3E00000#32)
      ((show EReal from v (ix2 r j)) * Cert.Quant.rinv ((show EReal from a (ix2 r 0)) * w (ix2 r 0)))) := by
  unfold Cert.Quant.rinv
  rw [Ideal.ofBits_zero_f32]
  pointwise [k0_pay2, exp_at, exp2_eq]

/-- The scales from the column of largest magnitudes. -/
theorem scale_at (a w : FVec Ideal S12288x1 .f32) (x : Fin 48) (y : Fin 256) (r : Fin 12288) (hr : r.val = x.val * 256 + y.val) :
    k0_pay3 (F := Ideal) a w (ix3 x 0 y) = Cert.Quant.rscale ((show EReal from a (ix2 r 0)) * w (ix2 r 0)) := by
  have e : r = (⟨x.val * 256 + y.val, by omega⟩ : Fin 12288) := Fin.ext hr
  rw [e]
  unfold Cert.Quant.rscale
  pointwise [k0_pay3, exp_at, exp2_eq]

variable (m : (ℓ : Loc nD τ sig) → Buf (Elt Ideal) ℓ) (ρ : Dev nD → PrngReg)

theorem idx : ∀ t : Fin cfg0.N, win0_0.index t = ![0, 0] ∧ win0_1.index t = ![0, 0] ∧ win0_2.index t = ![0, 0, 0]
    ∧ win0_3.index t = ![0, 0] ∧ win0_4.index t = ![0, 0] ∧ win0_5.index t = ![0, 0] ∧ win0_6.index t = ![0, 0]
    ∧ win0_7.index t = ![0, 0, 0] :=
  (by decide +kernel : ∀ t : Fin grid0.N, _)

theorem rd0 (c : Dev nD) (r : Fin 12288) (k : Fin 2560) :
    iblk m c 0 t0_0 (ix2 r k) = m ((c : Thread nD τ).loc main_arg0) (ix2 r k) := by
  blk_point [iblk, V, idx t0_0]

theorem rd1 (c : Dev nD) (r : Fin 12288) :
    iblk m c 1 t0_0 (ix2 r 0) = m ((c : Thread nD τ).loc main_arg1) (ix3 ⟨r.val / 256, by omega⟩ 0 ⟨r.val % 256, by omega⟩) := by
  have e : ((cfg0.win 1).blk t0_0).view.emb (ix2 r 0) = ix2 r 0 := by blk_ext [idx t0_0]
  unfold iblk
  blk_simp [idx t0_0]
  rw [show V m c main_v0 ((win0_1.blk t0_0).view.emb (ix2 r 0)) = V m c main_v0 (ix2 r 0) from congrArg (V m c main_v0) e]
  entry_read
  pointwise

theorem rd2 (c : Dev nD) (i : Fin 2) (j : Fin 6912) (k : Fin 2560) :
    iblk m c 2 t0_0 (ix3 i j k) = m ((c : Thread nD τ).loc main_arg2) (ix3 i j k) := by
  blk_point [iblk, V, idx t0_0]

theorem rd3 (c : Dev nD) (i : Fin 2) (j : Fin 6912) :
    iblk m c 3 t0_0 (ix2 i j) = m ((c : Thread nD τ).loc main_arg3) (ix2 i j) := by
  blk_point [iblk, V, idx t0_0]

theorem rd4 (c : Dev nD) (j : Fin 6912) :
    iblk m c 4 t0_0 (ix2 0 j) = m ((c : Thread nD τ).loc main_arg4) (ix2 0 j) := by
  blk_point [iblk, V, idx t0_0]

theorem rd5 (c : Dev nD) (j : Fin 6912) :
    iblk m c 5 t0_0 (ix2 0 j) = m ((c : Thread nD τ).loc main_arg5) (ix2 0 j) := by
  blk_point [iblk, V, idx t0_0]

/-- A row of the reference's product, over its blocks, is the row over the arguments. -/
theorem row_eq (c : Dev nD) (r : Fin 12288) :
    rrow (View.ld (iblk m c 0 t0_0) r0_1) (View.ld (iblk m c 1 t0_0) r0_0) (View.ld (iblk m c 2 t0_0) r0_2) (View.ld (iblk m c 2 t0_0) r0_4)
        (View.ld (iblk m c 3 t0_0) r0_3) (View.ld (iblk m c 3 t0_0) r0_5) (View.ld (iblk m c 4 t0_0) r0_6) (View.ld (iblk m c 5 t0_0) r0_6) r
      = uprow (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) r := by
  funext j
  unfold rrow uprow
  have h0 : (fun k : Fin 2560 => View.ld (iblk m c 0 t0_0) r0_1 (ix2 r k)) = fun k => m ((c : Thread nD τ).loc main_arg0) (ix2 r k) := by
    funext k
    pointwise [r0_1]
    exact rd0 m c r k
  have h2 : (fun k : Fin 2560 => View.ld (iblk m c 2 t0_0) r0_2 (ix3 0 j k)) = fun k => m ((c : Thread nD τ).loc main_arg2) (ix3 0 j k) := by
    funext k
    pointwise [r0_2]
    exact rd2 m c 0 j k
  have h4 : (fun k : Fin 2560 => View.ld (iblk m c 2 t0_0) r0_4 (ix3 0 j k)) = fun k => m ((c : Thread nD τ).loc main_arg2) (ix3 1 j k) := by
    funext k
    pointwise [r0_4]
    exact rd2 m c 1 j k
  have h1 : View.ld (iblk m c 1 t0_0) r0_0 (ix2 r 0) = m ((c : Thread nD τ).loc main_arg1) (ix3 ⟨r.val / 256, by omega⟩ 0 ⟨r.val % 256, by omega⟩) := by
    pointwise [r0_0]
    exact rd1 m c r
  have h3 : View.ld (iblk m c 3 t0_0) r0_3 (ix2 0 j) = m ((c : Thread nD τ).loc main_arg3) (ix2 0 j) := by
    pointwise [r0_3]
    exact rd3 m c 0 j
  have h5 : View.ld (iblk m c 3 t0_0) r0_5 (ix2 0 j) = m ((c : Thread nD τ).loc main_arg3) (ix2 1 j) := by
    pointwise [r0_5]
    exact rd3 m c 1 j
  have h6 : View.ld (iblk m c 4 t0_0) r0_6 (ix2 0 j) = m ((c : Thread nD τ).loc main_arg4) (ix2 0 j) := by
    pointwise [r0_6]
    exact rd4 m c j
  have h7 : View.ld (iblk m c 5 t0_0) r0_6 (ix2 0 j) = m ((c : Thread nD τ).loc main_arg5) (ix2 0 j) := by
    pointwise [r0_6]
    exact rd5 m c j
  rw [h0, h1, h2, h3, h4, h5, h6, h7]

/-- The codes after the reference's run. -/
theorem final6 (c : Dev nD) : (dats m 0 c).arrAt 6 cfg0.N
    = upCodes (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_after_last 6 t0_0 (by decide +kernel) _ fun j => ?_
  blk_simp
  rw [after0_6]
  unfold out0_6
  obtain ⟨a, b, rfl⟩ : ∃ (a : Fin 12288) (b : Fin 6912), j = ix2 a b := ⟨j 0, j 1, eq_ix2 j⟩
  have e : ix2 a b = r0_7.emb (ix2 a b) := by unfold r0_7; blk_ext
  rw [e]
  refine (View.canon_cons_emb r0_7 _ _ _).trans ?_
  rw [← e]
  unfold k0_pay7 k0_pay8
  refine (code_at _ _ _ a b).trans ?_
  unfold upCodes qcode
  refine congrArg (fun x : EReal => min _ (max _ x)) (congrArg₂ (fun x y : EReal => x * y) ?_ (congrArg Cert.Quant.rinv ?_))
  · refine (m_at _ _ _ _ _ _ _ _ a b).trans ?_
    exact congrFun (row_eq m c a) b
  · refine (q_at _ _ _ _ _ _ _ _ a).trans ?_
    exact congrArg qin (row_eq m c a)

/-- The scales after the reference's run. -/
theorem final7 (c : Dev nD) : (dats m 0 c).arrAt 7 cfg0.N
    = upScales (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_after_last 7 t0_0 (by decide +kernel) _ fun j => ?_
  blk_simp
  rw [after0_7]
  frame_out
  obtain ⟨a, z, b, rfl⟩ : ∃ (a : Fin 48) (z : Fin 1) (b : Fin 256), j = ix3 a z b := ⟨j 0, j 1, j 2, eq_ix3 j⟩
  obtain rfl : z = 0 := Subsingleton.elim _ _
  unfold k0_pay7 k0_pay8
  refine (scale_at _ _ a b ⟨a.val * 256 + b.val, by omega⟩ rfl).trans ?_
  unfold upScales qscale
  refine congrArg Cert.Quant.rscale ?_
  refine (q_at _ _ _ _ _ _ _ _ _).trans ?_
  exact congrArg qin (row_eq m c _)

end Cert.UpRefIdeal.Pure

end
-- ==== Proof.UpAlg.lean ====
/- The up projection's kernel and its reference end with the same results. -/
module

public import proofs.«01_k».proof.Defs
public import proofs.«01_k».proof.Proof.UpRef
public import Idealize.ShloMosaic.Lib.Claim

@[expose] public section

noncomputable section

open Idealize.ShloMosaic Idealize.ShloMosaic.TcCoe Idealize.SL.Sem Idealize.ShloMosaic.Tactic

namespace Cert.Up

/-- A function of six arguments gives equal values at equal arguments. -/
theorem six {α β γ δ ε ζ η : Type} (f : α → β → γ → δ → ε → ζ → η) {a a' : α} {b b' : β} {c c' : γ} {d d' : δ} {e e' : ε} {z z' : ζ}
    (ha : a = a') (hb : b = b') (hc : c = c') (hd : d = d') (he : e = e') (hz : z = z') : f a b c d e z = f a' b' c' d' e' z' := by
  subst ha hb hc hd he hz; rfl

/-- From memories that agree on the arguments, the up projection's kernel and its reference leave the same codes and
    the same scales. -/
theorem algebraic : Cert.algebraic_UpIdeal_UpRefIdeal := by
  pair_intro
  · run_from Cert.UpIdeal.Gen.run_main m g
  · run_from Cert.UpRefIdeal.Gen.run_main m' g'
    · obtain ⟨h0, h1, h2, h3, h4, h5⟩ := hagree c
      exact (Cert.UpRefIdeal.Pure.final6 m' c).trans ((six Cert.Spec.upCodes h0 h1 h2 h3 h4 h5).trans (Cert.UpIdeal.Pure.final6 m c).symm)
    · obtain ⟨h0, h1, h2, h3, h4, h5⟩ := hagree c
      exact (Cert.UpRefIdeal.Pure.final7 m' c).trans ((six Cert.Spec.upScales h0 h1 h2 h3 h4 h5).trans (Cert.UpIdeal.Pure.final7 m c).symm)

end Cert.Up

end
-- ==== Proof.QkvSpec.lean ====
/- The mathematics of the projection to queries, keys and values: its rows quantised, projected, and the heads of the
   queries and keys rotated and scaled to unit length. -/
module

public import proofs.«01_k».proof.Proof.Spec

@[expose] public section

set_option maxRecDepth 16384

noncomputable section

open Idealize.ShloMosaic Idealize.ShloMosaic.TcCoe Idealize.SL.Sem Idealize.ShloMosaic.Tactic

namespace Cert.Spec

/-- A head rotated by its position's angles: the first half of its entries against the second. -/
def rope (cs sn : Fin 64 → EReal) (t : Fin 128 → EReal) (l : Fin 128) : EReal :=
  if h : l.val < 64 then t l * cs ⟨l.val, h⟩ - t ⟨l.val + 64, by omega⟩ * sn ⟨l.val, h⟩
  else t l * cs ⟨l.val - 64, by omega⟩ + t ⟨l.val - 64, by omega⟩ * sn ⟨l.val - 64, by omega⟩

/-- A head scaled to unit length, times a factor. -/
def unit (s : EReal) (u : Fin 128 → EReal) (l : Fin 128) : EReal :=
  s * (u l * Ideal.rsqrt ((∑ k, u k * u k) + Ideal.ofBits .f32 0x2B8CBCCC#32))

/-- The rotation with one table of cosines and one of signed sines over the whole head. -/
def rot (co si : Fin 128 → EReal) (t : Fin 128 → EReal) (l : Fin 128) : EReal :=
  t l * co l + t ⟨(l.val + 128 - 64) % 128, Nat.mod_lt _ (by norm_num)⟩ * si l

/-- Both forms of the rotation agree. -/
theorem rot_eq (cs sn : Fin 64 → EReal) (t : Fin 128 → EReal) :
    rot (fun l => cs ⟨l.val % 64, Nat.mod_lt _ (by norm_num)⟩)
        (fun l => if h : l.val < 64 then -sn ⟨l.val, h⟩ else sn ⟨l.val - 64, by omega⟩) t = rope cs sn t := by
  funext l
  unfold rot rope
  beta_reduce
  by_cases h : l.val < 64
  · rw [dif_pos h, dif_pos h, mul_neg, ← sub_eq_add_neg]
    have e1 : l.val % 64 = l.val := Nat.mod_eq_of_lt h
    have e2 : (l.val + 128 - 64) % 128 = l.val + 64 := by omega
    simp only [e1, e2]
  · rw [dif_neg h, dif_neg h]
    have e1 : l.val % 64 = l.val - 64 := by omega
    have e2 : (l.val + 128 - 64) % 128 = l.val - 64 := by omega
    simp only [e1, e2]

/-- The angle of position `p` at frequency `i`. -/
def angle (p i : ℕ) : EReal :=
  FloatOps.sitofp (F := Ideal) .f32 (BitVec.ofNat 32 p) * Ideal.pow (Ideal.ofBits .f32 0x461C4000#32)
    (Ideal.div (Ideal.ofBits .f32 0xC0000000#32 * FloatOps.sitofp (F := Ideal) .f32 (BitVec.ofNat 32 i)) (Ideal.ofBits .f32 0x43000000#32))

/-- The table of cosines. -/
def cosT (p : ℕ) (i : Fin 64) : EReal := Ideal.cos (angle p i.val)

/-- The table of sines. -/
def sinT (p : ℕ) (i : Fin 64) : EReal := Ideal.sin (angle p i.val)

section
variable (X : FVec Ideal ⟨2, ![12288, 2560]⟩ .bf16) (W : FVec Ideal ⟨2, ![7680, 2560]⟩ .fp8e4m3) (ws : FVec Ideal ⟨2, ![1, 7680]⟩ .f32)
  (sq : FVec Ideal ⟨2, ![1, 2560]⟩ .f32)

/-- Row `R` of the activations. -/
def xrow (R : Fin 12288) (k : Fin 2560) : EReal := X (ix2 R k)

/-- Entry `n` of the projection of row `R`, from the row's codes and scale; zero past the last weight row. -/
def proj (R : Fin 12288) (n : ℕ) : EReal :=
  if h : n < 7680 then (∑ k : Fin 2560, qcode (xrow X R) k * W (ix2 (⟨n, h⟩ : Fin 7680) k)) * (qscale (xrow X R) * ws (ix2 0 ⟨n, h⟩)) else 0

/-- One entry of the queries or keys: the head's projection from weight row `j0` on, rotated and scaled to unit length. -/
def qkAt (j0 : ℕ) (R : Fin 12288) (n : Fin 2560) : EReal :=
  unit (sq (ix2 0 n)) (rope (cosT (R.val % 1024)) (sinT (R.val % 1024)) fun l => proj X W ws R (j0 + 128 * (n.val / 128) + l))
    ⟨n.val % 128, Nat.mod_lt _ (by norm_num)⟩

/-- The queries (`j0 = 0`) and the keys (`j0 = 2560`). -/
def qkArr (j0 : ℕ) : FVec Ideal ⟨2, ![12288, 2560]⟩ .bf16 := fun y => qkAt X W ws sq j0 (y 0) (y 1)

/-- The queries, keys and values as one function of the four arguments each. -/
def qArr : FVec Ideal ⟨2, ![12288, 2560]⟩ .bf16 := qkArr X W ws sq 0
def kArr : FVec Ideal ⟨2, ![12288, 2560]⟩ .bf16 := qkArr X W ws sq 2560
def vArr : FVec Ideal ⟨2, ![12288, 2560]⟩ .bf16 := fun y => proj X W ws (y 0) (5120 + (show Fin 2560 from y 1).val)

/-- The codes of the activations. -/
def xCodes : FVec Ideal ⟨2, ![12288, 2560]⟩ .fp8e4m3 := fun y => qcode (xrow X (y 0)) (y 1)

/-- The scales of the activations, 512 rows to a line. -/
def xScales : FVec Ideal ⟨3, ![24, 1, 512]⟩ .f32 := fun y => qscale (xrow X ⟨(show Fin 24 from y 0).val * 512 + (show Fin 512 from y 2).val,
      by have h0 := (show Fin 24 from y 0).isLt; have h2 := (show Fin 512 from y 2).isLt; omega⟩)

end

end Cert.Spec

end
-- ==== Proof.Rows.lean ====
/- The quantiser's argument as the vector operations compute it, for any number of rows and columns. -/
module

public import proofs.«01_k».proof.Proof.Spec
public import Idealize.ShloMosaic.Lib.Pipeline.ValueKit

@[expose] public section

set_option maxRecDepth 16384

noncomputable section

open Idealize.ShloMosaic Idealize.ShloMosaic.TcCoe Idealize.SL.Sem

namespace Cert.Spec

/-- The column the quantiser takes the exponents of, from the rows. -/
def qcol {M N : ℕ} (h1 : (⟨2, ![M, N]⟩ : Shape).Reduces [1] ⟨1, ![M]⟩) (h2 : (⟨1, ![M]⟩ : Shape).ShapeCasts ⟨2, ![M, 1]⟩)
    (v : FVec Ideal ⟨2, ![M, N]⟩ .f32) : FVec Ideal ⟨2, ![M, 1]⟩ .f32 :=
  mulf (shapeCast ⟨2, ![M, 1]⟩ (multiReduction .maximumf [1] ⟨1, ![M]⟩ (absf v) 0xFF800000#32 h1 (.inl rfl) rfl) h2)
    (broadcast ⟨2, ![M, 1]⟩ (Scalar.ofBits .f32 0x3B124925#32))

theorem qcol_at {M N : ℕ} (h1 : (⟨2, ![M, N]⟩ : Shape).Reduces [1] ⟨1, ![M]⟩) (h2 : (⟨1, ![M]⟩ : Shape).ShapeCasts ⟨2, ![M, 1]⟩)
    (v : FVec Ideal ⟨2, ![M, N]⟩ .f32) (r : Fin M) : qcol h1 h2 v (ix2 r 0) = qin fun k : Fin N => v (ix2 r k) := by
  have e : Shape.reshapeEquiv h2 (ix2 r 0) = ix1 r :=
    Shape.reshapeEquiv_eq_of_vals h2 _ _ r.val (r.val * 1 + 0) (rowMajor_val1 _) (rowMajor_val2 _ 1 rfl) (by omega)
  pointwise [qcol]
  unfold qin
  rw [fold_eq, e]
  rfl

end Cert.Spec

end
-- ==== Proof.QkvPure.lean ====
/- What one grid point of the projection to queries, keys and values computes, read at an index: the vector payloads
   of the kernel as the mathematics of one row. -/
module

public import proofs.«01_k».proof.Proof.Gen.QkvIdeal.Skeleton
public import proofs.«01_k».proof.Proof.QkvSpec
public import proofs.«01_k».proof.Proof.Rows
public import Idealize.ShloMosaic.Lib.Pipeline.ValueKit

@[expose] public section

set_option maxRecDepth 16384

noncomputable section

open Idealize.ShloMosaic Idealize.ShloMosaic.TcCoe Idealize.SL.Sem

namespace Cert.QkvIdeal.Pure

open Cert.QkvIdeal Cert.QkvIdeal.Gen Cert.Spec

/-- The column the quantiser takes the exponents of. -/
theorem acol_at (x : FVec Ideal S512x2560 .bf16) (r : Fin 512) :
    k0_pay2 (F := Ideal) x (ix2 r 0) = qin fun k : Fin 2560 => (show EReal from x (ix2 r k)) :=
  qcol_at reduces_S512x2560_S512 shapeCasts_S512_S512x1 (k0_pay1 x) r

/-- The scales the kernel derives from the column. -/
theorem kscale_col (x : FVec Ideal S512x2560 .bf16) :
    k0_pay5 (F := Ideal) (k0_pay2 x) (k0_pay3 (F := Ideal) x) 4#32 = fun i => Cert.Quant.kscale (k0_pay2 (F := Ideal) x i) := by
  simp only [k0_pay5, k0_pay4, k0_pay3]
  rw [vstep_eq, vstep_eq, vstep_eq, vstep_eq, vstep_eq, vstep_eq, vstep_eq, vstep_eq, vfield_eq, vexp_eq, vscale_eq]

/-- The inverse scales the kernel derives from the column. -/
theorem kinv_col (x : FVec Ideal S512x2560 .bf16) :
    k0_pay6 (F := Ideal) (k0_pay2 x) (k0_pay3 (F := Ideal) x) 4#32
      = broadcastTo S512x2560 (fun i => Cert.Quant.kinv (k0_pay2 (F := Ideal) x i)) broadcasts_S512x1_S512x2560 := by
  simp only [k0_pay6, k0_pay4, k0_pay3]
  rw [vstep_eq, vstep_eq, vstep_eq, vstep_eq, vstep_eq, vstep_eq, vstep_eq, vstep_eq, vfield_eq, vexp_eq, vinv_eq]

/-- The scale of row `r`. -/
theorem scale_at (x : FVec Ideal S512x2560 .bf16) (r : Fin 512) :
    k0_pay5 (F := Ideal) (k0_pay2 x) (k0_pay3 (F := Ideal) x) 4#32 (ix2 r 0) = qscale fun k : Fin 2560 => (show EReal from x (ix2 r k)) := by
  rw [kscale_col]
  refine (Cert.Quant.kscale_eq _).trans ?_
  unfold qscale
  exact congrArg Cert.Quant.rscale (acol_at x r)

/-- Codes from rows and inverse scales. -/
theorem codes_of (x : FVec Ideal S512x2560 .bf16) (a : FVec Ideal S512x1 .f32) (r : Fin 512) (j : Fin 2560) :
    k0_pay7 (F := Ideal) (k0_pay1 x) (broadcastTo S512x2560 (fun i => Cert.Quant.kinv (a i)) broadcasts_S512x1_S512x2560) (ix2 r j)
      = min (Ideal.ofBits .f32 0x43E00000#32) (max (Ideal.ofBits .f32 0xC3E00000#32)
        ((show EReal from x (ix2 r j)) * Cert.Quant.rinv (a (ix2 r 0)))) := by
  rw [← Cert.Quant.kinv_eq]
  pointwise [k0_pay7, k0_pay1]

/-- The code at row `r`, column `j`. -/
theorem code_at (x : FVec Ideal S512x2560 .bf16) (r : Fin 512) (j : Fin 2560) :
    k0_pay7 (F := Ideal) (k0_pay1 x) (k0_pay6 (k0_pay2 x) (k0_pay3 (F := Ideal) x) 4#32) (ix2 r j)
      = qcode (fun k : Fin 2560 => (show EReal from x (ix2 r k))) j := by
  rw [kinv_col]
  refine (codes_of x _ r j).trans ?_
  unfold qcode
  rw [acol_at]

/-- A column laid out as a row. -/
theorem colrow_at (v : FVec Ideal S512x1 .f32) (r : Fin 512) : k0_pay8 (F := Ideal) v (ix3 0 0 r) = v (ix2 r 0) := by
  pointwise [k0_pay8]
  repeat' split
  all_goals first | rfl | (congr 2; exact Fin.ext (by simp; omega))

section
variable (sc : FVec Ideal S512x1 .f32) (cd : FVec Ideal S512x2560 .fp8e4m3) (CO SI : FVec Ideal S512x128 .f32)
  (W : FVec Ideal S7680x2560 .fp8e4m3) (WS : FVec Ideal S1x7680 .f32) (SQ : FVec Ideal S1x2560 .f32)

/-- Entry `n` of the projection of row `r`. -/
def T (r : Fin 512) (n : Fin 7680) : EReal := (∑ k : Fin 2560, (show EReal from cd (ix2 r k)) * W (ix2 n k)) * ((show EReal from sc (ix2 r 0)) * WS (ix2 0 n))

/-- The same at a natural number. -/
def TN (r : Fin 512) (n : ℕ) : EReal := if h : n < 7680 then T sc cd W WS r ⟨n, h⟩ else 0

/-- The block of 256 columns at `o` of the projection, as the kernel computes it. -/
def B (o : ℕ) (h1 : ∀ a, (![o, 0] : Fin 2 → Nat) a + S256x2560.size a ≤ S7680x2560.size a)
    (h2 : ∀ a, (![0, o] : Fin 2 → Nat) a + S1x256.size a ≤ S1x7680.size a) : FVec Ideal S512x256 .f32 :=
  k0_pay16 sc (k0_pay9 cd)
    (View.ld (S := S7680x2560) (Val := Elt Ideal) (e' := .fp8e4m3) W (Rect.unit (s := S7680x2560) ![o, 0] ![256, 2560] h1))
    (constant S512x256 .f32 0x00000000#32)
    (View.ld (S := S1x7680) (Val := Elt Ideal) (e' := .f32) WS (Rect.unit (s := S1x7680) ![0, o] ![1, 256] h2))

theorem B_at (o : ℕ) (h1 h2) (r : Fin 512) (b : Fin 256) :
    B sc cd W WS o h1 h2 (ix2 r b) = TN sc cd W WS r (o + b) := by
  have ho : o + b.val < 7680 := by
    have h := h2 1
    have h' : o + 256 ≤ 7680 := h
    omega
  unfold TN T
  rw [dif_pos ho]
  pointwise [B, k0_pay16, k0_pay9]

/-- A head rotated, scaled to unit length and multiplied by its factors, as the kernel computes it. -/
def hv (t : FVec Ideal S512x128 .f32) (sq : FVec Ideal S1x128 .f32) : FVec Ideal S512x128 .bf16 :=
  have u : FVec Ideal S512x128 .f32 := addf (mulf t (k0_pay10 CO)) (mulf (dynamicRotate 1 64#32 none t rotates_S512x128_d1) (k0_pay11 SI))
  truncf .bf16 (mulf (broadcastTo S512x128 sq broadcasts_S1x128_S512x128) (mulf u (broadcastTo S512x128 (rsqrt (addf
    (shapeCast S512x1 (multiReduction .add [1] S512 (mulf u u) 0x00000000#32 reduces_S512x128_S512 (.inl rfl) rfl) shapeCasts_S512_S512x1)
    (broadcast S512x1 (Scalar.ofBits .f32 0x2B8CBCCC#32)))) broadcasts_S512x1_S512x128))) bitsLt_bf16_f32

theorem hv_at (t : FVec Ideal S512x128 .f32) (sq : FVec Ideal S1x128 .f32) (r : Fin 512) (l : Fin 128) :
    hv CO SI t sq (ix2 r l) = unit (sq (ix2 0 l)) (rot (fun l => CO (ix2 r l)) (fun l => SI (ix2 r l)) (fun l => t (ix2 r l))) l := by
  unfold unit rot
  pointwise [hv, k0_pay10, k0_pay11]

end

end Cert.QkvIdeal.Pure

end
-- ==== Proof.QkvPoint.lean ====
/- What the kernel of the projection to queries, keys and values leaves in its five output buffers at one grid point,
   entry by entry. -/
module

public import proofs.«01_k».proof.Proof.Gen.QkvIdeal.Value
public import proofs.«01_k».proof.Proof.QkvPure

@[expose] public section

set_option maxRecDepth 16384

noncomputable section

open Idealize.ShloMosaic Idealize.ShloMosaic.TcCoe Idealize.SL.Sem Idealize.ShloMosaic.Tactic

namespace Cert.QkvIdeal.Pure

open Cert.QkvIdeal Cert.QkvIdeal.Gen Cert.Spec

section
variable (sc : FVec Ideal S512x1 .f32) (cd : FVec Ideal S512x2560 .fp8e4m3) (CO SI : FVec Ideal S512x128 .f32)
  (W : FVec Ideal S7680x2560 .fp8e4m3) (WS : FVec Ideal S1x7680 .f32) (SQ : FVec Ideal S1x2560 .f32)

/-- Entry `n` of the queries or keys of row `r`, the projection's rows taken from `j0` on. -/
def pq (j0 : ℕ) (r : Fin 512) (n : Fin 2560) : EReal :=
  unit (SQ (ix2 0 n)) (rot (fun l => CO (ix2 r l)) (fun l => SI (ix2 r l)) fun l => TN sc cd W WS r (j0 + 128 * (n.val / 128) + l))
    ⟨n.val % 128, Nat.mod_lt _ (by norm_num)⟩

/-- A stored head, at the place the store puts it. -/
theorem head_at (j0 n0 off o : ℕ) (ho : o % 128 = 0) (hn : n0 + off = j0 + o) (h1 h2) (hs : S512x256.Slices ![0, off] S512x128)
    (hq : ∀ a, (![0, o] : Fin 2 → Nat) a + S1x128.size a ≤ S1x2560.size a)
    (hR : ∀ a, (![0, o] : Fin 2 → Nat) a + S512x128.size a ≤ S512x2560.size a) (x : S512x128.Idx) :
    hv CO SI (extractStridedSlice S512x128 ![0, off] (B sc cd W WS n0 h1 h2) hs)
        (View.ld (S := S1x2560) (Val := Elt Ideal) (e' := .f32) SQ (Rect.unit (s := S1x2560) ![0, o] ![1, 128] hq)) x
      = pq sc cd CO SI W WS SQ j0 ((Rect.unit (s := S512x2560) ![0, o] ![512, 128] hR).emb x 0)
          ((Rect.unit (s := S512x2560) ![0, o] ![512, 128] hR).emb x 1) := by
  obtain ⟨a, b, rfl⟩ : ∃ (a : Fin 512) (b : Fin 128), x = ix2 a b := ⟨x 0, x 1, eq_ix2 x⟩
  have hoff : off + 128 ≤ 256 := hs.2 1
  have hlt : o + 128 ≤ 2560 := hR 1
  have e0 : (Rect.unit (s := S512x2560) ![0, o] ![512, 128] hR).emb (ix2 a b) 0 = a := Fin.ext (by
    show 0 + 1 * a.val = a.val
    omega)
  have e1 : (Rect.unit (s := S512x2560) ![0, o] ![512, 128] hR).emb (ix2 a b) 1 = (⟨o + b.val, by omega⟩ : Fin 2560) := Fin.ext (by
    show o + 1 * b.val = o + b.val
    omega)
  refine Eq.trans ?_ (congrArg₂ (fun (r : Fin 512) (n : Fin 2560) => pq sc cd CO SI W WS SQ j0 r n) e0.symm e1.symm)
  refine (hv_at CO SI _ _ a b).trans ?_
  unfold pq
  have hb : (⟨(o + b.val) % 128, Nat.mod_lt _ (by norm_num)⟩ : Fin 128) = b := Fin.ext (by
    show (o + b.val) % 128 = b.val
    omega)
  rw [hb]
  have ht : (fun l : Fin 128 => extractStridedSlice S512x128 ![0, off] (B sc cd W WS n0 h1 h2) hs (ix2 a l))
      = fun l : Fin 128 => TN sc cd W WS a (j0 + 128 * ((o + b.val) / 128) + l.val) := by
    funext l
    have e := B_at sc cd W WS n0 h1 h2 a ⟨off + l.val, by omega⟩
    rw [show j0 + 128 * ((o + b.val) / 128) + l.val = n0 + (off + l.val) by omega]
    refine Eq.trans ?_ e
    pointwise
  rw [ht]
  refine congrArg (fun s : EReal => unit s _ b) ?_
  pointwise

/-- A stored block of the values, at the place the store puts it. -/
theorem val_at (n0 o : ℕ) (hn : n0 = 5120 + o) (h1 h2)
    (hR : ∀ a, (![0, o] : Fin 2 → Nat) a + S512x256.size a ≤ S512x2560.size a) (x : S512x256.Idx) :
    (truncf .bf16 (B sc cd W WS n0 h1 h2) bitsLt_bf16_f32 : FVec Ideal S512x256 .bf16) x
      = TN sc cd W WS ((Rect.unit (s := S512x2560) ![0, o] ![512, 256] hR).emb x 0)
          (5120 + ((Rect.unit (s := S512x2560) ![0, o] ![512, 256] hR).emb x 1).val) := by
  obtain ⟨a, b, rfl⟩ : ∃ (a : Fin 512) (b : Fin 256), x = ix2 a b := ⟨x 0, x 1, eq_ix2 x⟩
  have e0 : (Rect.unit (s := S512x2560) ![0, o] ![512, 256] hR).emb (ix2 a b) 0 = a := Fin.ext (by
    show 0 + 1 * a.val = a.val
    omega)
  have e1 : n0 + b.val = 5120 + ((Rect.unit (s := S512x2560) ![0, o] ![512, 256] hR).emb (ix2 a b) 1).val := by
    show n0 + b.val = 5120 + (o + 1 * b.val)
    omega
  exact (B_at sc cd W WS n0 h1 h2 a b).trans (congrArg₂ (fun (r : Fin 512) (n : ℕ) => TN sc cd W WS r n) e0.symm e1)

end

variable (m : (ℓ : Loc nD τ sig) → Buf (Elt Ideal) ℓ)

/-- The scale the kernel leaves for row `r` of point `t`'s block. -/
theorem point_scale (c : Dev nD) (t : Fin cfg0.N) (r : Fin 512) :
    (outsAt0 m c t).2.2.2.2 (ix3 0 0 r) = qscale fun k : Fin 2560 => (show EReal from iblk m c 0 t (ix2 r k)) := by
  unfold outsAt0
  frame_out
  exact (colrow_at _ r).trans (scale_at (iblk m c 0 t) r)

/-- The code the kernel leaves at row `r`, column `j` of point `t`'s block. -/
theorem point_code (c : Dev nD) (t : Fin cfg0.N) (r : Fin 512) (j : Fin 2560) :
    (outsAt0 m c t).2.2.2.1 (ix2 r j) = qcode (fun k : Fin 2560 => (show EReal from iblk m c 0 t (ix2 r k))) j := by
  unfold outsAt0
  frame_out
  exact code_at (iblk m c 0 t) r j

/-- The scales and codes of point `t`'s block. -/
def psc (c : Dev nD) (t : Fin cfg0.N) : FVec Ideal S512x1 .f32 := k0_pay5 (k0_pay2 (iblk m c 0 t)) (k0_pay3 (F := Ideal) (iblk m c 0 t)) 4#32

def pcd (c : Dev nD) (t : Fin cfg0.N) : FVec Ideal S512x2560 .fp8e4m3 :=
  k0_pay7 (k0_pay1 (iblk m c 0 t)) (k0_pay6 (k0_pay2 (iblk m c 0 t)) (k0_pay3 (F := Ideal) (iblk m c 0 t)) 4#32)

set_option maxHeartbeats 8000000 in
/-- The values the kernel leaves at row `r`, column `j` of point `t`'s block. -/
theorem point_v (c : Dev nD) (t : Fin cfg0.N) (r : Fin 512) (j : Fin 2560) :
    (outsAt0 m c t).2.2.1 (ix2 r j) = TN (psc m c t) (pcd m c t) (iblk m c 1 t) (iblk m c 2 t) r (5120 + j.val) := by
  unfold outsAt0
  frame_out
  refine (View.canon_apply_of_pieces (fun y => TN (psc m c t) (pcd m c t) (iblk m c 1 t) (iblk m c 2 t) (y 0) (5120 + (y 1).val)) _ ?_ _ ?_).trans ?_
  · unfold psc pcd
    generalize k0_pay5 (k0_pay2 (iblk m c 0 t)) (k0_pay3 (F := Ideal) (iblk m c 0 t)) 4#32 = sc
    generalize k0_pay7 (k0_pay1 (iblk m c 0 t)) (k0_pay6 (k0_pay2 (iblk m c 0 t)) (k0_pay3 (F := Ideal) (iblk m c 0 t)) 4#32) = cd
    iterate 10 refine List.forall_mem_cons.mpr ⟨fun x => val_at sc cd (iblk m c 1 t) (iblk m c 2 t) _ _ (by rfl) _ _ (by decide) x, ?_⟩
    exact fun p hp => absurd hp (List.not_mem_nil)
  · exact View.cover_of_tiledL (s := S512x2560) _ ![512, 256] (by sl_kernel_rfl) _
  · rfl

set_option maxHeartbeats 16000000 in
/-- The queries the kernel leaves at row `r`, column `j` of point `t`'s block. -/
theorem point_q (c : Dev nD) (t : Fin cfg0.N) (r : Fin 512) (j : Fin 2560) :
    (outsAt0 m c t).1 (ix2 r j) = pq (psc m c t) (pcd m c t) (iblk m c 4 t) (iblk m c 5 t) (iblk m c 1 t) (iblk m c 2 t) (iblk m c 3 t) 0 r j := by
  unfold outsAt0
  frame_out
  refine (View.canon_apply_of_pieces (fun y => pq (psc m c t) (pcd m c t) (iblk m c 4 t) (iblk m c 5 t) (iblk m c 1 t) (iblk m c 2 t) (iblk m c 3 t) 0 (y 0) (y 1)) _ ?_ _ ?_).trans ?_
  · unfold psc pcd
    generalize k0_pay5 (k0_pay2 (iblk m c 0 t)) (k0_pay3 (F := Ideal) (iblk m c 0 t)) 4#32 = sc
    generalize k0_pay7 (k0_pay1 (iblk m c 0 t)) (k0_pay6 (k0_pay2 (iblk m c 0 t)) (k0_pay3 (F := Ideal) (iblk m c 0 t)) 4#32) = cd
    iterate 10
      refine List.forall_mem_cons.mpr ⟨fun x => head_at sc cd (iblk m c 4 t) (iblk m c 5 t) (iblk m c 1 t) (iblk m c 2 t) (iblk m c 3 t) 0 _ 128 _ (by rfl) (by rfl) _ _ slices_S512x256_o0_128_S512x128 _ (by decide) x, ?_⟩
      refine List.forall_mem_cons.mpr ⟨fun x => head_at sc cd (iblk m c 4 t) (iblk m c 5 t) (iblk m c 1 t) (iblk m c 2 t) (iblk m c 3 t) 0 _ 0 _ (by rfl) (by rfl) _ _ slices_S512x256_o0_0_S512x128 _ (by decide) x, ?_⟩
    exact fun p hp => absurd hp (List.not_mem_nil)
  · exact View.cover_of_tiledL (s := S512x2560) _ ![512, 128] (by sl_kernel_rfl) _
  · rfl

set_option maxHeartbeats 16000000 in
/-- The keys the kernel leaves at row `r`, column `j` of point `t`'s block. -/
theorem point_k (c : Dev nD) (t : Fin cfg0.N) (r : Fin 512) (j : Fin 2560) :
    (outsAt0 m c t).2.1 (ix2 r j) = pq (psc m c t) (pcd m c t) (iblk m c 4 t) (iblk m c 5 t) (iblk m c 1 t) (iblk m c 2 t) (iblk m c 3 t) 2560 r j := by
  unfold outsAt0
  frame_out
  refine (View.canon_apply_of_pieces (fun y => pq (psc m c t) (pcd m c t) (iblk m c 4 t) (iblk m c 5 t) (iblk m c 1 t) (iblk m c 2 t) (iblk m c 3 t) 2560 (y 0) (y 1)) _ ?_ _ ?_).trans ?_
  · unfold psc pcd
    generalize k0_pay5 (k0_pay2 (iblk m c 0 t)) (k0_pay3 (F := Ideal) (iblk m c 0 t)) 4#32 = sc
    generalize k0_pay7 (k0_pay1 (iblk m c 0 t)) (k0_pay6 (k0_pay2 (iblk m c 0 t)) (k0_pay3 (F := Ideal) (iblk m c 0 t)) 4#32) = cd
    iterate 10
      refine List.forall_mem_cons.mpr ⟨fun x => head_at sc cd (iblk m c 4 t) (iblk m c 5 t) (iblk m c 1 t) (iblk m c 2 t) (iblk m c 3 t) 2560 _ 128 _ (by rfl) (by rfl) _ _ slices_S512x256_o0_128_S512x128 _ (by decide) x, ?_⟩
      refine List.forall_mem_cons.mpr ⟨fun x => head_at sc cd (iblk m c 4 t) (iblk m c 5 t) (iblk m c 1 t) (iblk m c 2 t) (iblk m c 3 t) 2560 _ 0 _ (by rfl) (by rfl) _ _ slices_S512x256_o0_0_S512x128 _ (by decide) x, ?_⟩
    exact fun p hp => absurd hp (List.not_mem_nil)
  · exact View.cover_of_tiledL (s := S512x2560) _ ![512, 128] (by sl_kernel_rfl) _
  · rfl

end Cert.QkvIdeal.Pure

end
-- ==== Proof.QkvFinal.lean ====
/- What the kernel of the projection to queries, keys and values leaves in its five result arrays. -/
module

public import proofs.«01_k».proof.Proof.QkvPoint

@[expose] public section

set_option maxRecDepth 16384

noncomputable section

open Idealize.ShloMosaic Idealize.ShloMosaic.TcCoe Idealize.SL.Sem Idealize.ShloMosaic.Tactic

namespace Cert.QkvIdeal.Pure

open Cert.QkvIdeal Cert.QkvIdeal.Gen Cert.Spec

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![t.val % 2, 0] ∧ win0_5.index t = ![t.val % 2, 0] ∧ win0_6.index t = ![t.val, 0]
    ∧ win0_7.index t = ![t.val, 0] ∧ win0_8.index t = ![t.val, 0] ∧ win0_9.index t = ![t.val, 0] ∧ win0_10.index t = ![t.val, 0, 0] :=
  (by decide +kernel : ∀ t : Fin grid0.N, _)

/-- The host's table of cosines. -/
theorem tab4 (c : Dev nD) (p : Fin 1024) (l : Fin 128) :
    V m c main_v15 (ix2 p l) = cosT p.val ⟨l.val % 64, Nat.mod_lt _ (by norm_num)⟩ := by
  entry_read
  pointwise
  unfold cosT angle
  by_cases h : l.val < 64
  · rw [dif_pos h]; simp only [Nat.mod_eq_of_lt h]
  · rw [dif_neg h]; simp only [show l.val % 64 = l.val - 64 by omega]

/-- The host's table of signed sines. -/
theorem tab5 (c : Dev nD) (p : Fin 1024) (l : Fin 128) :
    V m c main_v17 (ix2 p l) = if h : l.val < 64 then -sinT p.val ⟨l.val, h⟩ else sinT p.val ⟨l.val - 64, by omega⟩ := by
  entry_read
  pointwise
  unfold sinT angle
  rfl

/-- A block of the cosines. -/
theorem rd4 (c : Dev nD) (t : Fin cfg0.N) (r : Fin 512) (l : Fin 128) :
    iblk m c 4 t (ix2 r l) = cosT (t.val % 2 * 512 + r.val) ⟨l.val % 64, Nat.mod_lt _ (by norm_num)⟩ := by
  have e : ((cfg0.win 4).blk t).view.emb (ix2 r l) = ix2 (⟨t.val % 2 * 512 + r.val, by omega⟩ : Fin 1024) l := by blk_ext [idx t]
  refine Eq.trans ?_ (tab4 m c ⟨t.val % 2 * 512 + r.val, by omega⟩ l)
  unfold iblk
  blk_simp [idx t]
  exact congrArg (V m c main_v15) e

/-- A block of the signed sines. -/
theorem rd5 (c : Dev nD) (t : Fin cfg0.N) (r : Fin 512) (l : Fin 128) :
    iblk m c 5 t (ix2 r l) = if h : l.val < 64 then -sinT (t.val % 2 * 512 + r.val) ⟨l.val, h⟩ else sinT (t.val % 2 * 512 + r.val) ⟨l.val - 64, by omega⟩ := by
  have e : ((cfg0.win 5).blk t).view.emb (ix2 r l) = ix2 (⟨t.val % 2 * 512 + r.val, by omega⟩ : Fin 1024) l := by blk_ext [idx t]
  refine Eq.trans ?_ (tab5 m c ⟨t.val % 2 * 512 + r.val, by omega⟩ l)
  unfold iblk
  blk_simp [idx t]
  exact congrArg (V m c main_v17) e

theorem rd0 (c : Dev nD) (t : Fin cfg0.N) (r : Fin 512) (R : Fin 12288) (hR : R.val = t.val * 512 + r.val) :
    (fun k : Fin 2560 => (show EReal from iblk m c 0 t (ix2 r k))) = xrow (m ((c : Thread nD τ).loc main_arg0)) R := by
  funext k
  unfold xrow
  blk_point [iblk, V, idx t]

theorem rd1 (c : Dev nD) (t : Fin cfg0.N) (n : Fin 7680) (k : Fin 2560) :
    iblk m c 1 t (ix2 n k) = m ((c : Thread nD τ).loc main_arg1) (ix2 n k) := by
  blk_point [iblk, V, idx t]

theorem rd2 (c : Dev nD) (t : Fin cfg0.N) (n : Fin 7680) :
    iblk m c 2 t (ix2 0 n) = m ((c : Thread nD τ).loc main_arg2) (ix2 0 n) := by
  blk_point [iblk, V, idx t]

theorem rd3 (c : Dev nD) (t : Fin cfg0.N) (n : Fin 2560) :
    iblk m c 3 t (ix2 0 n) = m ((c : Thread nD τ).loc main_arg3) (ix2 0 n) := by
  blk_point [iblk, V, idx t]

/-- The projection of a row of a grid point's block is that of the row of the whole at its place. -/
theorem TN_eq (c : Dev nD) (t : Fin cfg0.N) (r : Fin 512) (R : Fin 12288) (hR : R.val = t.val * 512 + r.val) (n : ℕ) :
    TN (psc m c t) (pcd m c t) (iblk m c 1 t) (iblk m c 2 t) r n
      = proj (m ((c : Thread nD τ).loc main_arg0)) (m ((c : Thread nD τ).loc main_arg1)) (m ((c : Thread nD τ).loc main_arg2)) R n := by
  unfold TN proj
  by_cases h : n < 7680
  · rw [dif_pos h, dif_pos h]
    unfold T
    have hs : psc m c t (ix2 r 0) = qscale (xrow (m ((c : Thread nD τ).loc main_arg0)) R) :=
      (scale_at (iblk m c 0 t) r).trans (congrArg qscale (rd0 m c t r R hR))
    have hc : ∀ k : Fin 2560, pcd m c t (ix2 r k) = qcode (xrow (m ((c : Thread nD τ).loc main_arg0)) R) k := fun k =>
      (code_at (iblk m c 0 t) r k).trans (congrArg (fun v : Fin 2560 → EReal => qcode v k) (rd0 m c t r R hR))
    refine congrArg₂ (fun a b : EReal => a * b) (Finset.sum_congr rfl fun k _ => ?_) ?_
    · exact congrArg₂ (fun a b : EReal => a * b) (hc k) (rd1 m c t ⟨n, h⟩ k)
    · exact congrArg₂ (fun a b : EReal => a * b) hs (rd2 m c t ⟨n, h⟩)
  · rw [dif_neg h, dif_neg h]

/-- The same for an entry of the queries or keys. -/
theorem pq_eq (c : Dev nD) (t : Fin cfg0.N) (r : Fin 512) (R : Fin 12288) (hR : R.val = t.val * 512 + r.val) (j0 : ℕ) (n : Fin 2560) :
    pq (psc m c t) (pcd m c t) (iblk m c 4 t) (iblk m c 5 t) (iblk m c 1 t) (iblk m c 2 t) (iblk m c 3 t) j0 r n
      = qkAt (m ((c : Thread nD τ).loc main_arg0)) (m ((c : Thread nD τ).loc main_arg1)) (m ((c : Thread nD τ).loc main_arg2))
          (m ((c : Thread nD τ).loc main_arg3)) j0 R n := by
  unfold pq qkAt
  rw [← rot_eq]
  have hp : R.val % 1024 = t.val % 2 * 512 + r.val := by omega
  have h4 : (fun l : Fin 128 => iblk m c 4 t (ix2 r l)) = fun l => cosT (R.val % 1024) ⟨l.val % 64, Nat.mod_lt _ (by norm_num)⟩ := by
    funext l
    rw [hp]
    exact rd4 m c t r l
  have h5 : (fun l : Fin 128 => iblk m c 5 t (ix2 r l)) = fun l => if h : l.val < 64 then -sinT (R.val % 1024) ⟨l.val, h⟩ else sinT (R.val % 1024) ⟨l.val - 64, by omega⟩ := by
    funext l
    rw [hp]
    exact rd5 m c t r l
  have hT : (fun l : Fin 128 => TN (psc m c t) (pcd m c t) (iblk m c 1 t) (iblk m c 2 t) r (j0 + 128 * (n.val / 128) + l.val))
      = fun l : Fin 128 => proj (m ((c : Thread nD τ).loc main_arg0)) (m ((c : Thread nD τ).loc main_arg1)) (m ((c : Thread nD τ).loc main_arg2)) R (j0 + 128 * (n.val / 128) + l.val) :=
    funext fun l => TN_eq m c t r R hR _
  rw [h4, h5, hT]
  exact congrArg (fun s : EReal => unit s _ _) (rd3 m c t n)

/-- The queries after the run. -/
theorem final6 (c : Dev nD) : (dats m 0 c).arrAt 6 cfg0.N
    = qArr (m ((c : Thread nD τ).loc main_arg0)) (m ((c : Thread nD τ).loc main_arg1)) (m ((c : Thread nD τ).loc main_arg2))
      (m ((c : Thread nD τ).loc main_arg3)) := by
  refine (dats m 0 c).arrAt_eq_of_covers 6 _ (by decide +kernel) fun t _ y => ?_
  blk_simp
  rw [after0_6]
  obtain ⟨a, b, rfl⟩ : ∃ (a : Fin 512) (b : Fin 2560), y = ix2 a b := ⟨y 0, y 1, eq_ix2 y⟩
  refine (point_q m c t a b).trans ?_
  unfold qArr qkArr
  have e0 : ((((cfg0.win 6).blk t).view.emb (ix2 a b)) 0).val = t.val * 512 + a.val := by blk_simp [idx t]
  have e1 : ((((cfg0.win 6).blk t).view.emb (ix2 a b)) 1) = b := Fin.ext (by blk_simp [idx t]; try omega)
  rw [pq_eq m c t a _ e0]
  exact congrArg (qkAt _ _ _ _ 0 _) e1.symm

/-- The keys after the run. -/
theorem final7 (c : Dev nD) : (dats m 0 c).arrAt 7 cfg0.N
    = kArr (m ((c : Thread nD τ).loc main_arg0)) (m ((c : Thread nD τ).loc main_arg1)) (m ((c : Thread nD τ).loc main_arg2))
      (m ((c : Thread nD τ).loc main_arg3)) := by
  refine (dats m 0 c).arrAt_eq_of_covers 7 _ (by decide +kernel) fun t _ y => ?_
  blk_simp
  rw [after0_7]
  obtain ⟨a, b, rfl⟩ : ∃ (a : Fin 512) (b : Fin 2560), y = ix2 a b := ⟨y 0, y 1, eq_ix2 y⟩
  refine (point_k m c t a b).trans ?_
  unfold kArr qkArr
  have e0 : ((((cfg0.win 7).blk t).view.emb (ix2 a b)) 0).val = t.val * 512 + a.val := by blk_simp [idx t]
  have e1 : ((((cfg0.win 7).blk t).view.emb (ix2 a b)) 1) = b := Fin.ext (by blk_simp [idx t]; try omega)
  rw [pq_eq m c t a _ e0]
  exact congrArg (qkAt _ _ _ _ 2560 _) e1.symm

/-- The values after the run. -/
theorem final8 (c : Dev nD) : (dats m 0 c).arrAt 8 cfg0.N
    = vArr (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]
  obtain ⟨a, b, rfl⟩ : ∃ (a : Fin 512) (b : Fin 2560), y = ix2 a b := ⟨y 0, y 1, eq_ix2 y⟩
  refine (point_v m c t a b).trans ?_
  unfold vArr
  have e0 : ((((cfg0.win 8).blk t).view.emb (ix2 a b)) 0).val = t.val * 512 + a.val := by blk_simp [idx t]
  have e1 : ((((cfg0.win 8).blk t).view.emb (ix2 a b)) 1) = b := Fin.ext (by blk_simp [idx t]; try omega)
  rw [TN_eq m c t a _ e0]
  exact congrArg (fun n : Fin 2560 => proj _ _ _ _ (5120 + n.val)) e1.symm

/-- The codes after the run. -/
theorem final9 (c : Dev nD) : (dats m 0 c).arrAt 9 cfg0.N = xCodes (m ((c : Thread nD τ).loc main_arg0)) := by
  refine (dats m 0 c).arrAt_eq_of_covers 9 _ (by decide +kernel) fun t _ y => ?_
  blk_simp
  rw [after0_9]
  obtain ⟨a, b, rfl⟩ : ∃ (a : Fin 512) (b : Fin 2560), y = ix2 a b := ⟨y 0, y 1, eq_ix2 y⟩
  refine (point_code m c t a b).trans ?_
  unfold xCodes
  have e0 : ((((cfg0.win 9).blk t).view.emb (ix2 a b)) 0).val = t.val * 512 + a.val := by blk_simp [idx t]
  have e1 : ((((cfg0.win 9).blk t).view.emb (ix2 a b)) 1) = b := Fin.ext (by blk_simp [idx t]; try omega)
  rw [rd0 m c t a _ e0]
  exact congrArg (qcode _) e1.symm

/-- The scales after the run. -/
theorem final10 (c : Dev nD) : (dats m 0 c).arrAt 10 cfg0.N = xScales (m ((c : Thread nD τ).loc main_arg0)) := by
  refine (dats m 0 c).arrAt_eq_of_covers 10 _ (by decide +kernel) fun t _ y => ?_
  blk_simp
  rw [after0_10]
  obtain ⟨z, z', a, rfl⟩ : ∃ (z z' : Fin 1) (a : Fin 512), y = ix3 z z' a := ⟨y 0, y 1, y 2, eq_ix3 y⟩
  obtain rfl : z = 0 := Subsingleton.elim _ _
  obtain rfl : z' = 0 := Subsingleton.elim _ _
  refine (point_scale m c t a).trans ?_
  unfold xScales
  have e0 : ((((cfg0.win 10).blk t).view.emb (ix3 0 0 a)) 0).val = t.val := by blk_simp [idx t]; try omega
  have e2 : ((((cfg0.win 10).blk t).view.emb (ix3 0 0 a)) 2).val = a.val := by blk_simp [idx t]; try omega
  refine congrArg qscale (rd0 m c t a _ ?_)
  exact congrArg₂ (fun x y : ℕ => x * 512 + y) e0 e2

end Cert.QkvIdeal.Pure

end
-- ==== Proof.QkvRef.lean ====
/- What the reference of the projection to queries, keys and values leaves in its five result arrays. -/
module

public import proofs.«01_k».proof.Proof.Gen.QkvRefIdeal.Frame
public import proofs.«01_k».proof.Proof.Rows
public import proofs.«01_k».proof.Proof.QkvSpec

@[expose] public section

set_option maxRecDepth 16384

noncomputable section

open Idealize.ShloMosaic Idealize.ShloMosaic.TcCoe Idealize.SL.Sem Idealize.ShloMosaic.Tactic

namespace Cert.QkvRefIdeal.Pure

open Cert.QkvRefIdeal Cert.QkvRefIdeal.Gen Cert.Spec

/-- The vector operations that take the exponents of a column. -/
def expV (v6 : FVec Ideal S12288x1 .f32) : FVec Ideal S12288x1 .f32 :=
  have v7 : FVec Ideal S12288x1 .f32 := broadcast S12288x1 (Scalar.ofBits .f32 0x00800000#32)
  have v9 : FVec Ideal S12288x1 .f32 := broadcast S12288x1 (Scalar.ofBits .f32 0x7B800000#32)
  have v13 : FVec Ideal S12288x1 .f32 := broadcast S12288x1 (Named.named κ "ln2" 0x3F317218#32)
  have v16 : FVec Ideal S12288x1 .f32 := broadcast S12288x1 (Scalar.ofBits .f32 0x3F800000#32)
  have v18 : FVec Ideal S12288x1 .f32 := broadcast S12288x1 (Scalar.ofBits .f32 0x00000000#32)
  select (andi (cmpf .oge v6 v7) (cmpf .olt v6 v9)) (addf (floor (divf (log v6) v13)) v16) v18

/-- They are the scalar exponent entrywise. -/
theorem expV_at (v : FVec Ideal S12288x1 .f32) (i : S12288x1.Idx) : expV v i = Cert.Quant.rexp (v i) := rfl

theorem exp_eq (x : FVec Ideal S12288x2560 .bf16) :
    k0_pay4 (F := Ideal) x = expV (qcol reduces_S12288x2560_S12288 shapeCasts_S12288_S12288x1 (k0_pay3 x)) := rfl

/-- The exponent of row `r`. -/
theorem rowexp_at (x : FVec Ideal S12288x2560 .bf16) (r : Fin 12288) :
    k0_pay4 (F := Ideal) x (ix2 r 0) = Cert.Quant.rexp (qin fun k : Fin 2560 => (show EReal from x (ix2 r k))) := by
  rw [exp_eq, expV_at]
  exact congrArg Cert.Quant.rexp (qcol_at reduces_S12288x2560_S12288 shapeCasts_S12288_S12288x1 (k0_pay3 x) r)

theorem exp2_eq (x : EReal) : FloatOps.exp2 (F := Ideal) (φ := .f32) x = Ideal.exp2 x := rfl

theorem exp2V_at (v : FVec Ideal S12288x1 .f32) (i : S12288x1.Idx) : exp2 v i = Ideal.exp2 (v i) := rfl

theorem scale_eq (x : FVec Ideal S12288x2560 .bf16) : k0_pay6 (F := Ideal) x = exp2 (k0_pay4 (F := Ideal) x) := rfl

/-- The scale of row `r`. -/
theorem scale_at (x : FVec Ideal S12288x2560 .bf16) (r : Fin 12288) :
    k0_pay6 (F := Ideal) x (ix2 r 0) = qscale fun k : Fin 2560 => (show EReal from x (ix2 r k)) := by
  rw [scale_eq, exp2V_at, rowexp_at]
  rfl

/-- The scales, 512 rows to a line. -/
theorem scales_at (x : FVec Ideal S12288x2560 .bf16) (a : Fin 24) (b : Fin 512) (r : Fin 12288) (hr : r.val = a.val * 512 + b.val) :
    k0_pay7 (F := Ideal) x (ix3 a 0 b) = qscale fun k : Fin 2560 => (show EReal from x (ix2 r k)) := by
  have e : r = (⟨a.val * 512 + b.val, by omega⟩ : Fin 12288) := Fin.ext hr
  rw [← scale_at, e]
  generalize h : k0_pay6 (F := Ideal) x = s
  have h7 : k0_pay7 (F := Ideal) x = shapeCast S24x1x512 s shapeCasts_S12288x1_S24x1x512 := by rw [← h]; rfl
  rw [h7]
  pointwise

/-- The codes from the rows and the column of exponents. -/
theorem codes_of (v : FVec Ideal S12288x2560 .f32) (e : FVec Ideal S12288x1 .f32) (r : Fin 12288) (j : Fin 2560) :
    (truncf .fp8e4m3 (minimumf (broadcast S12288x2560 (Scalar.ofBits .f32 0x43E00000#32)) (maximumf
      (broadcast S12288x2560 (Scalar.ofBits .f32 0xC3E00000#32)) (mulf v (broadcastTo S12288x2560
        (exp2 (subf (broadcast S12288x1 (Scalar.ofBits .f32 0x00000000#32)) e)) broadcasts_S12288x1_S12288x2560))))
      bitsLt_fp8e4m3_f32 : FVec Ideal S12288x2560 .fp8e4m3) (ix2 r j)
      = min (Ideal.ofBits .f32 0x43E00000#32) (max (Ideal.ofBits .f32 0xC3E00000#32)
        ((show EReal from v (ix2 r j)) * Ideal.exp2 (Ideal.ofBits .f32 0x00000000#32 - e (ix2 r 0)))) := by
  rw [Ideal.ofBits_zero_f32]
  pointwise [exp2_eq]

/-- The code at row `r`, column `j`. -/
theorem code_at (x : FVec Ideal S12288x2560 .bf16) (r : Fin 12288) (j : Fin 2560) :
    k0_pay5 (F := Ideal) x (ix2 r j) = qcode (fun k : Fin 2560 => (show EReal from x (ix2 r k))) j := by
  refine (codes_of (k0_pay3 x) (k0_pay4 x) r j).trans ?_
  unfold qcode Cert.Quant.rinv
  rw [rowexp_at]
  first | rfl | (rw [Ideal.ofBits_zero_f32]; rfl)

/-- The projection over abstract codes and scales. -/
theorem proj_of (cd : FVec Ideal S12288x2560 .fp8e4m3) (sc : FVec Ideal S12288x1 .f32) (W : FVec Ideal S7680x2560 .fp8e4m3)
    (ws : FVec Ideal S1x7680 .f32) (r : Fin 12288) (n : Fin 7680) :
    k0_pay9 (F := Ideal) sc (matmul dot_S12288x2560_S7680x2560_S12288x7680_1_1_0_0_n_n none cd W (constant S12288x7680 .f32 0x00000000#32)) ws (ix2 r n)
      = (∑ k : Fin 2560, (show EReal from cd (ix2 r k)) * W (ix2 n k)) * ((show EReal from sc (ix2 r 0)) * ws (ix2 0 n)) := by
  pointwise [k0_pay9]

/-- The projection the reference computes. -/
theorem p_at (X : FVec Ideal S12288x2560 .bf16) (W : FVec Ideal S7680x2560 .fp8e4m3) (ws : FVec Ideal S1x7680 .f32) (r : Fin 12288) (n : Fin 7680) :
    k0_pay9 (F := Ideal) (k0_pay6 X) (k0_pay8 X W) ws (ix2 r n) = proj X W ws r n.val := by
  refine (proj_of (k0_pay5 X) (k0_pay6 X) W ws r n).trans ?_
  unfold proj
  rw [dif_pos n.isLt]
  refine congrArg₂ (fun a b : EReal => a * b) (Finset.sum_congr rfl fun k _ => ?_) ?_
  · exact congrArg (fun a : EReal => a * W (ix2 n k)) (code_at X r k)
  · exact congrArg (fun a : EReal => a * ws (ix2 0 n)) (scale_at X r)

section
variable (P : FVec Ideal S12x1024x20x128 .f32) (sq : FVec Ideal S20x128 .f32) (CO SI : FVec Ideal S1024x1x64 .f32)

/-- The rotated heads. -/
def ropeV : FVec Ideal S12x1024x20x128 .f32 :=
  have a : FVec Ideal S12x1024x20x64 .f32 := extractStridedSlice S12x1024x20x64 ![0, 0, 0, 0] P slices_S12x1024x20x128_o0_0_0_0_S12x1024x20x64
  have b : FVec Ideal S12x1024x20x64 .f32 := extractStridedSlice S12x1024x20x64 ![0, 0, 0, 64] P slices_S12x1024x20x128_o0_0_0_64_S12x1024x20x64
  have co : FVec Ideal S12x1024x20x64 .f32 := broadcastTo S12x1024x20x64 (shapeCast S1x1024x1x64 (shapeCast S1024x1x64 CO shapeCasts_S1024x1x64_S1024x1x64) shapeCasts_S1024x1x64_S1x1024x1x64) broadcasts_S1x1024x1x64_S12x1024x20x64
  have si : FVec Ideal S12x1024x20x64 .f32 := broadcastTo S12x1024x20x64 (shapeCast S1x1024x1x64 (shapeCast S1024x1x64 SI shapeCasts_S1024x1x64_S1024x1x64) shapeCasts_S1024x1x64_S1x1024x1x64) broadcasts_S1x1024x1x64_S12x1024x20x64
  concatenate S12x1024x20x128 3 [⟨S12x1024x20x64, subf (mulf a co) (mulf b si)⟩, ⟨S12x1024x20x64, addf (mulf b co) (mulf a si)⟩]
    concatenates_S12x1024x20x64_S12x1024x20x64_S12x1024x20x128_d3

theorem ropeV_at (s : Fin 12) (p : Fin 1024) (h : Fin 20) (l : Fin 128) :
    ropeV P CO SI (ix4 s p h l) = rope (fun i => CO (ix3 p 0 i)) (fun i => SI (ix3 p 0 i)) (fun l => P (ix4 s p h l)) l := by
  unfold rope
  pointwise [ropeV]
  by_cases hl : l.val < 64
  · rw [dif_pos hl, dif_pos hl]
    have e : 64 + l.val = l.val + 64 := Nat.add_comm _ _
    simp only [e]
  · rw [dif_neg hl, dif_neg hl]
    have e : 64 + (l.val - 64) = l.val := by omega
    simp only [e]

/-- Heads scaled to unit length and multiplied by their factors. -/
def normV (u : FVec Ideal S12x1024x20x128 .f32) : FVec Ideal S12x1024x20x128 .f32 :=
  mulf (broadcastTo S12x1024x20x128 (shapeCast S1x1x20x128 sq shapeCasts_S20x128_S1x1x20x128) broadcasts_S1x1x20x128_S12x1024x20x128)
    (mulf u (broadcastTo S12x1024x20x128 (rsqrt (addf (shapeCast S12x1024x20x1 (multiReduction .add [3] S12x1024x20 (mulf u u) 0x00000000#32
      reduces_S12x1024x20x128_S12x1024x20 (.inl rfl) rfl) shapeCasts_S12x1024x20_S12x1024x20x1)
      (broadcast S12x1024x20x1 (Scalar.ofBits .f32 0x2B8CBCCC#32)))) broadcasts_S12x1024x20x1_S12x1024x20x128))

theorem normV_at (u : FVec Ideal S12x1024x20x128 .f32) (s : Fin 12) (p : Fin 1024) (h : Fin 20) (l : Fin 128) :
    normV sq u (ix4 s p h l) = unit (sq (ix2 h l)) (fun l => u (ix4 s p h l)) l := by
  unfold unit
  pointwise [normV]

end

/-- Heads laid out as rows. -/
theorem lay_at (u : FVec Ideal S12x1024x20x128 .f32) (r : Fin 12288) (n : Fin 2560) :
    (shapeCast S12288x2560 (truncf .bf16 u bitsLt_bf16_f32 : FVec Ideal S12x1024x20x128 .bf16) shapeCasts_S12x1024x20x128_S12288x2560 : FVec Ideal S12288x2560 .bf16) (ix2 r n)
      = u (ix4 ⟨r.val / 1024, by omega⟩ ⟨r.val % 1024, by omega⟩ ⟨n.val / 128, by omega⟩ ⟨n.val % 128, by omega⟩) := by
  pointwise

/-- Rows cut into heads, from column `j0` of the projection. -/
theorem cut_at (P : FVec Ideal S12288x7680 .f32) (j0 : ℕ) (hj : S12288x7680.Slices ![0, j0] S12288x2560) (s : Fin 12) (p : Fin 1024) (h : Fin 20) (l : Fin 128)
    (R : Fin 12288) (hR : R.val = s.val * 1024 + p.val) (N : Fin 7680) (hN : N.val = j0 + 128 * h.val + l.val) :
    shapeCast S12x1024x20x128 (extractStridedSlice S12288x2560 ![0, j0] P hj) shapeCasts_S12288x2560_S12x1024x20x128 (ix4 s p h l) = P (ix2 R N) := by
  pointwise
  refine congrArg P ?_
  exact congrArg₂ (fun (a : Fin 12288) (b : Fin 7680) => ix2 a b) (Fin.ext (by simp; omega)) (Fin.ext (by simp; omega))

/-- The factors cut into heads. -/
theorem sq_at (sq : FVec Ideal S1x2560 .f32) (h : Fin 20) (l : Fin 128) (N : Fin 2560) (hN : N.val = 128 * h.val + l.val) :
    k0_pay10 (F := Ideal) sq (ix2 h l) = sq (ix2 0 N) := by
  have e : N = (⟨h.val * 128 + l.val, by omega⟩ : Fin 2560) := Fin.ext (by simp; omega)
  rw [e]
  pointwise [k0_pay10]

section
variable (X : FVec Ideal S12288x2560 .bf16) (W : FVec Ideal S7680x2560 .fp8e4m3) (ws : FVec Ideal S1x7680 .f32) (sq : FVec Ideal S1x2560 .f32)
  (CO SI : FVec Ideal S1024x1x64 .f32)

/-- A head of the queries or keys as the reference computes it, from column `j0` of the projection. -/
theorem head_at (P : FVec Ideal S12288x7680 .f32) (j0 : ℕ) (hj : S12288x7680.Slices ![0, j0] S12288x2560) (hj' : j0 + 2560 ≤ 7680) (r : Fin 12288) (n : Fin 2560) :
    (shapeCast S12288x2560 (truncf .bf16 (normV (k0_pay10 sq) (ropeV (shapeCast S12x1024x20x128 (extractStridedSlice S12288x2560 ![0, j0] P hj)
        shapeCasts_S12288x2560_S12x1024x20x128) CO SI)) bitsLt_bf16_f32 : FVec Ideal S12x1024x20x128 .bf16) shapeCasts_S12x1024x20x128_S12288x2560 : FVec Ideal S12288x2560 .bf16) (ix2 r n)
      = unit (sq (ix2 0 n)) (rope (fun i => CO (ix3 ⟨r.val % 1024, by omega⟩ 0 i)) (fun i => SI (ix3 ⟨r.val % 1024, by omega⟩ 0 i))
          fun l => P (ix2 r ⟨j0 + 128 * (n.val / 128) + l.val, by omega⟩)) ⟨n.val % 128, Nat.mod_lt _ (by norm_num)⟩ := by
  refine (lay_at _ r n).trans ?_
  refine (normV_at _ _ _ _ _ _).trans ?_
  rw [sq_at sq _ _ n (by show n.val = 128 * (n.val / 128) + n.val % 128; omega)]
  refine congrArg (fun u : Fin 128 → EReal => unit _ u _) (funext fun l => ?_)
  refine (ropeV_at _ _ _ _ _ _ _).trans ?_
  refine congrArg (fun t : Fin 128 → EReal => rope _ _ t l) (funext fun l' => ?_)
  exact cut_at P j0 hj _ _ _ _ r (by show r.val = r.val / 1024 * 1024 + r.val % 1024; omega) _ rfl

theorem q_eq (sc : FVec Ideal S12288x1 .f32) (mm : FVec Ideal S12288x7680 .f32) : k0_pay11 (F := Ideal) sc mm ws sq CO SI
    = shapeCast S12288x2560 (truncf .bf16 (normV (k0_pay10 sq) (ropeV (shapeCast S12x1024x20x128 (extractStridedSlice S12288x2560 ![0, 0] (k0_pay9 sc mm ws)
        slices_S12288x7680_o0_0_S12288x2560) shapeCasts_S12288x2560_S12x1024x20x128) CO SI)) bitsLt_bf16_f32 : FVec Ideal S12x1024x20x128 .bf16)
        shapeCasts_S12x1024x20x128_S12288x2560 := rfl

theorem k_eq (sc : FVec Ideal S12288x1 .f32) (mm : FVec Ideal S12288x7680 .f32) : k0_pay1 (F := Ideal) (k0_pay10 sq) (k0_pay12 sc mm ws) CO SI
    = shapeCast S12288x2560 (truncf .bf16 (normV (k0_pay10 sq) (ropeV (shapeCast S12x1024x20x128 (extractStridedSlice S12288x2560 ![0, 2560] (k0_pay9 sc mm ws)
        slices_S12288x7680_o0_2560_S12288x2560) shapeCasts_S12288x2560_S12x1024x20x128) CO SI)) bitsLt_bf16_f32 : FVec Ideal S12x1024x20x128 .bf16)
        shapeCasts_S12x1024x20x128_S12288x2560 := rfl

/-- The head's entry as the shared mathematics states it, given the tables. -/
theorem unit_eq (hCO : ∀ (p : Fin 1024) (i : Fin 64), CO (ix3 p 0 i) = cosT p.val i) (hSI : ∀ (p : Fin 1024) (i : Fin 64), SI (ix3 p 0 i) = sinT p.val i)
    (P : FVec Ideal S12288x7680 .f32) (hP : ∀ (r : Fin 12288) (n : Fin 7680), P (ix2 r n) = proj X W ws r n.val) (j0 : ℕ) (hj' : j0 + 2560 ≤ 7680)
    (r : Fin 12288) (n : Fin 2560) :
    unit (sq (ix2 0 n)) (rope (fun i => CO (ix3 ⟨r.val % 1024, by omega⟩ 0 i)) (fun i => SI (ix3 ⟨r.val % 1024, by omega⟩ 0 i))
          fun l => P (ix2 r ⟨j0 + 128 * (n.val / 128) + l.val, by omega⟩)) ⟨n.val % 128, Nat.mod_lt _ (by norm_num)⟩
      = qkAt X W ws sq j0 r n := by
  unfold qkAt
  have h1 : (fun i : Fin 64 => CO (ix3 (⟨r.val % 1024, by omega⟩ : Fin 1024) 0 i)) = cosT (r.val % 1024) := funext fun i => hCO _ i
  have h2 : (fun i : Fin 64 => SI (ix3 (⟨r.val % 1024, by omega⟩ : Fin 1024) 0 i)) = sinT (r.val % 1024) := funext fun i => hSI _ i
  have h3 : (fun l : Fin 128 => P (ix2 r ⟨j0 + 128 * (n.val / 128) + l.val, by omega⟩)) = fun l : Fin 128 => proj X W ws r (j0 + 128 * (n.val / 128) + l.val) :=
    funext fun l => hP r _
  rw [h1, h2, h3]

/-- The queries and keys as the reference computes them. -/
theorem q_out (hCO : ∀ (p : Fin 1024) (i : Fin 64), CO (ix3 p 0 i) = cosT p.val i) (hSI : ∀ (p : Fin 1024) (i : Fin 64), SI (ix3 p 0 i) = sinT p.val i)
    (r : Fin 12288) (n : Fin 2560) : k0_pay11 (F := Ideal) (k0_pay6 X) (k0_pay8 X W) ws sq CO SI (ix2 r n) = qkAt X W ws sq 0 r n := by
  rw [q_eq]
  refine (head_at sq CO SI _ 0 _ (by norm_num) r n).trans ?_
  exact unit_eq X W ws sq CO SI hCO hSI _ (p_at X W ws) 0 (by norm_num) r n

theorem k_out (hCO : ∀ (p : Fin 1024) (i : Fin 64), CO (ix3 p 0 i) = cosT p.val i) (hSI : ∀ (p : Fin 1024) (i : Fin 64), SI (ix3 p 0 i) = sinT p.val i)
    (r : Fin 12288) (n : Fin 2560) :
    k0_pay1 (F := Ideal) (k0_pay10 sq) (k0_pay12 (k0_pay6 X) (k0_pay8 X W) ws) CO SI (ix2 r n) = qkAt X W ws sq 2560 r n := by
  rw [k_eq]
  refine (head_at sq CO SI _ 2560 _ (by norm_num) r n).trans ?_
  exact unit_eq X W ws sq CO SI hCO hSI _ (p_at X W ws) 2560 (by norm_num) r n

/-- A value as the reference computes it. -/
theorem v_at (P : FVec Ideal S12288x7680 .f32) (r : Fin 12288) (n : Fin 2560) :
    k0_pay2 (F := Ideal) P (ix2 r n) = P (ix2 r ⟨5120 + n.val, by omega⟩) := by
  pointwise [k0_pay2]

theorem v_out (r : Fin 12288) (n : Fin 2560) :
    k0_pay2 (F := Ideal) (k0_pay9 (k0_pay6 X) (k0_pay8 X W) ws) (ix2 r n) = proj X W ws r (5120 + n.val) :=
  (v_at _ r n).trans (p_at X W ws r _)

end

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] ∧ win0_4.index t = ![0, 0, 0] ∧ win0_5.index t = ![0, 0, 0] ∧ win0_6.index t = ![0, 0]
    ∧ win0_7.index t = ![0, 0] ∧ win0_8.index t = ![0, 0] ∧ win0_9.index t = ![0, 0] ∧ win0_10.index t = ![0, 0, 0] :=
  (by decide +kernel : ∀ t : Fin grid0.N, _)

/-- The host's tables of cosines and sines. -/
theorem tab4 (c : Dev nD) (p : Fin 1024) (i : Fin 64) : V m c main_v14 (ix3 p 0 i) = cosT p.val i := by
  entry_read
  pointwise
  rfl

theorem tab5 (c : Dev nD) (p : Fin 1024) (i : Fin 64) : V m c main_v16 (ix3 p 0 i) = sinT p.val i := by
  entry_read
  pointwise
  rfl

theorem rd0 (c : Dev nD) (r : Fin 12288) (k : Fin 2560) :
    View.ld (iblk m c 0 t0_0) r0_0 (ix2 r k) = m ((c : Thread nD τ).loc main_arg0) (ix2 r k) := by
  have e : iblk m c 0 t0_0 (ix2 r k) = m ((c : Thread nD τ).loc main_arg0) (ix2 r k) := by blk_point [iblk, V, idx t0_0]
  refine Eq.trans ?_ e
  pointwise [r0_0]

theorem rd1 (c : Dev nD) (r : Fin 7680) (k : Fin 2560) :
    View.ld (iblk m c 1 t0_0) r0_2 (ix2 r k) = m ((c : Thread nD τ).loc main_arg1) (ix2 r k) := by
  have e : iblk m c 1 t0_0 (ix2 r k) = m ((c : Thread nD τ).loc main_arg1) (ix2 r k) := by blk_point [iblk, V, idx t0_0]
  refine Eq.trans ?_ e
  pointwise [r0_2]

theorem rd2 (c : Dev nD) (k : Fin 7680) :
    View.ld (iblk m c 2 t0_0) r0_3 (ix2 0 k) = m ((c : Thread nD τ).loc main_arg2) (ix2 0 k) := by
  have e : iblk m c 2 t0_0 (ix2 0 k) = m ((c : Thread nD τ).loc main_arg2) (ix2 0 k) := by blk_point [iblk, V, idx t0_0]
  refine Eq.trans ?_ e
  pointwise [r0_3]

theorem rd3 (c : Dev nD) (k : Fin 2560) :
    View.ld (iblk m c 3 t0_0) r0_4 (ix2 0 k) = m ((c : Thread nD τ).loc main_arg3) (ix2 0 k) := by
  have e : iblk m c 3 t0_0 (ix2 0 k) = m ((c : Thread nD τ).loc main_arg3) (ix2 0 k) := by blk_point [iblk, V, idx t0_0]
  refine Eq.trans ?_ e
  pointwise [r0_4]

theorem rd4 (c : Dev nD) (p : Fin 1024) (i : Fin 64) : View.ld (iblk m c 4 t0_0) r0_5 (ix3 p 0 i) = cosT p.val i := by
  have e : ((cfg0.win 4).blk t0_0).view.emb (ix3 p 0 i) = ix3 p 0 i := by blk_ext [idx t0_0]
  have e' : iblk m c 4 t0_0 (ix3 p 0 i) = cosT p.val i := by
    refine Eq.trans ?_ (tab4 m c p i)
    unfold iblk
    blk_simp [idx t0_0]
    exact congrArg (V m c main_v14) e
  refine Eq.trans ?_ e'
  pointwise [r0_5]

theorem rd5 (c : Dev nD) (p : Fin 1024) (i : Fin 64) : View.ld (iblk m c 5 t0_0) r0_5 (ix3 p 0 i) = sinT p.val i := by
  have e : ((cfg0.win 5).blk t0_0).view.emb (ix3 p 0 i) = ix3 p 0 i := by blk_ext [idx t0_0]
  have e' : iblk m c 5 t0_0 (ix3 p 0 i) = sinT p.val i := by
    refine Eq.trans ?_ (tab5 m c p i)
    unfold iblk
    blk_simp [idx t0_0]
    exact congrArg (V m c main_v16) e
  refine Eq.trans ?_ e'
  pointwise [r0_5]

/-- The blocks the reference loads are its arguments. -/
theorem ld0 (c : Dev nD) : (View.ld (iblk m c 0 t0_0) r0_0 : FVec Ideal S12288x2560 .bf16) = m ((c : Thread nD τ).loc main_arg0) :=
  by
  funext y
  obtain ⟨a, b, rfl⟩ : ∃ (a : Fin 12288) (b : Fin 2560), y = ix2 a b := ⟨y 0, y 1, eq_ix2 y⟩
  exact rd0 m c a b

theorem ld1 (c : Dev nD) : (View.ld (iblk m c 1 t0_0) r0_2 : FVec Ideal S7680x2560 .fp8e4m3) = m ((c : Thread nD τ).loc main_arg1) :=
  by
  funext y
  obtain ⟨a, b, rfl⟩ : ∃ (a : Fin 7680) (b : Fin 2560), y = ix2 a b := ⟨y 0, y 1, eq_ix2 y⟩
  exact rd1 m c a b

theorem ld2 (c : Dev nD) : (View.ld (iblk m c 2 t0_0) r0_3 : FVec Ideal S1x7680 .f32) = m ((c : Thread nD τ).loc main_arg2) := by
  funext y
  obtain ⟨z, b, rfl⟩ : ∃ (z : Fin 1) (b : Fin 7680), y = ix2 z b := ⟨y 0, y 1, eq_ix2 y⟩
  obtain rfl : z = 0 := Subsingleton.elim _ _
  exact rd2 m c b

theorem ld3 (c : Dev nD) : (View.ld (iblk m c 3 t0_0) r0_4 : FVec Ideal S1x2560 .f32) = m ((c : Thread nD τ).loc main_arg3) := by
  funext y
  obtain ⟨z, b, rfl⟩ : ∃ (z : Fin 1) (b : Fin 2560), y = ix2 z b := ⟨y 0, y 1, eq_ix2 y⟩
  obtain rfl : z = 0 := Subsingleton.elim _ _
  exact rd3 m c b

/-- The queries after the reference's run. -/
theorem final6 (c : Dev nD) : (dats m 0 c).arrAt 6 cfg0.N
    = qArr (m ((c : Thread nD τ).loc main_arg0)) (m ((c : Thread nD τ).loc main_arg1)) (m ((c : Thread nD τ).loc main_arg2))
      (m ((c : Thread nD τ).loc main_arg3)) := by
  refine (dats m 0 c).arrAt_eq_of_after_last 6 t0_0 (by decide +kernel) _ fun j => ?_
  blk_simp
  rw [after0_6]
  unfold out0_6
  obtain ⟨a, b, rfl⟩ : ∃ (a : Fin 12288) (b : Fin 2560), j = ix2 a b := ⟨j 0, j 1, eq_ix2 j⟩
  have e : ix2 a b = r0_0.emb (ix2 a b) := by unfold r0_0; blk_ext
  rw [e]
  refine (View.canon_cons_emb r0_0 _ _ _).trans ?_
  rw [← e]
  unfold k0_pay13 k0_pay14
  refine (q_out _ _ _ _ _ _ (rd4 m c) (rd5 m c) a b).trans ?_
  rw [ld0, ld1, ld2, ld3]
  rfl

/-- The keys after the reference's run. -/
theorem final7 (c : Dev nD) : (dats m 0 c).arrAt 7 cfg0.N
    = kArr (m ((c : Thread nD τ).loc main_arg0)) (m ((c : Thread nD τ).loc main_arg1)) (m ((c : Thread nD τ).loc main_arg2))
      (m ((c : Thread nD τ).loc main_arg3)) := by
  refine (dats m 0 c).arrAt_eq_of_after_last 7 t0_0 (by decide +kernel) _ fun j => ?_
  blk_simp
  rw [after0_7]
  unfold out0_7
  obtain ⟨a, b, rfl⟩ : ∃ (a : Fin 12288) (b : Fin 2560), j = ix2 a b := ⟨j 0, j 1, eq_ix2 j⟩
  have e : ix2 a b = r0_0.emb (ix2 a b) := by unfold r0_0; blk_ext
  rw [e]
  refine (View.canon_cons_emb r0_0 _ _ _).trans ?_
  rw [← e]
  unfold k0_pay13 k0_pay14
  refine (k_out _ _ _ _ _ _ (rd4 m c) (rd5 m c) a b).trans ?_
  rw [ld0, ld1, ld2, ld3]
  rfl

/-- The values after the reference's run. -/
theorem final8 (c : Dev nD) : (dats m 0 c).arrAt 8 cfg0.N
    = vArr (m ((c : Thread nD τ).loc main_arg0)) (m ((c : Thread nD τ).loc main_arg1)) (m ((c : Thread nD τ).loc main_arg2)) := by
  refine (dats m 0 c).arrAt_eq_of_after_last 8 t0_0 (by decide +kernel) _ fun j => ?_
  blk_simp
  rw [after0_8]
  unfold out0_8
  obtain ⟨a, b, rfl⟩ : ∃ (a : Fin 12288) (b : Fin 2560), j = ix2 a b := ⟨j 0, j 1, eq_ix2 j⟩
  have e : ix2 a b = r0_0.emb (ix2 a b) := by unfold r0_0; blk_ext
  rw [e]
  refine (View.canon_cons_emb r0_0 _ _ _).trans ?_
  rw [← e]
  unfold k0_pay13 k0_pay14
  refine (v_out _ _ _ a b).trans ?_
  rw [ld0, ld1, ld2]
  rfl

/-- The codes after the reference's run. -/
theorem final9 (c : Dev nD) : (dats m 0 c).arrAt 9 cfg0.N = xCodes (m ((c : Thread nD τ).loc main_arg0)) := by
  refine (dats m 0 c).arrAt_eq_of_after_last 9 t0_0 (by decide +kernel) _ fun j => ?_
  blk_simp
  rw [after0_9]
  unfold out0_9
  obtain ⟨a, b, rfl⟩ : ∃ (a : Fin 12288) (b : Fin 2560), j = ix2 a b := ⟨j 0, j 1, eq_ix2 j⟩
  have e : ix2 a b = r0_0.emb (ix2 a b) := by unfold r0_0; blk_ext
  rw [e]
  refine (View.canon_cons_emb r0_0 _ _ _).trans ?_
  rw [← e, ld0]
  exact code_at _ a b

/-- The scales after the reference's run. -/
theorem final10 (c : Dev nD) : (dats m 0 c).arrAt 10 cfg0.N = xScales (m ((c : Thread nD τ).loc main_arg0)) := by
  refine (dats m 0 c).arrAt_eq_of_after_last 10 t0_0 (by decide +kernel) _ fun j => ?_
  blk_simp
  rw [after0_10]
  unfold out0_10
  obtain ⟨a, z, b, rfl⟩ : ∃ (a : Fin 24) (z : Fin 1) (b : Fin 512), j = ix3 a z b := ⟨j 0, j 1, j 2, eq_ix3 j⟩
  obtain rfl : z = 0 := Subsingleton.elim _ _
  have e : ix3 a 0 b = r0_1.emb (ix3 a 0 b) := by unfold r0_1; blk_ext
  rw [e]
  refine (View.canon_cons_emb r0_1 _ _ _).trans ?_
  rw [← e, ld0]
  exact scales_at _ a b ⟨a.val * 512 + b.val, by omega⟩ rfl

end Cert.QkvRefIdeal.Pure

end
-- ==== Proof.QkvAlg.lean ====
/- The kernel of the projection to queries, keys and values and its reference end with the same results. -/
module

public import proofs.«01_k».proof.Defs
public import proofs.«01_k».proof.Proof.QkvFinal
public import proofs.«01_k».proof.Proof.QkvRef
public import Idealize.ShloMosaic.Lib.Claim

@[expose] public section

noncomputable section

open Idealize.ShloMosaic Idealize.ShloMosaic.TcCoe Idealize.SL.Sem Idealize.ShloMosaic.Tactic

namespace Cert.Qkv

/-- A function of four arguments gives equal values at equal arguments. -/
theorem four {α β γ δ ε : Type} (f : α → β → γ → δ → ε) {a a' : α} {b b' : β} {c c' : γ} {d d' : δ}
    (ha : a = a') (hb : b = b') (hc : c = c') (hd : d = d') : f a b c d = f a' b' c' d' := by
  subst ha hb hc hd; rfl

set_option maxHeartbeats 4000000 in
/-- From memories that agree on the arguments, the kernel and its reference leave the same queries, keys, values, codes
    and scales. -/
theorem algebraic : Cert.algebraic_QkvIdeal_QkvRefIdeal := by
  pair_intro
  · run_from Cert.QkvIdeal.Gen.run_main m g
  · run_from Cert.QkvRefIdeal.Gen.run_main m' g'
    · obtain ⟨h0, h1, h2, h3⟩ := hagree c
      exact (Cert.QkvRefIdeal.Pure.final6 m' c).trans ((four Cert.Spec.qArr h0 h1 h2 h3).trans (Cert.QkvIdeal.Pure.final6 m c).symm)
    · obtain ⟨h0, h1, h2, h3⟩ := hagree c
      exact (Cert.QkvRefIdeal.Pure.final7 m' c).trans ((four Cert.Spec.kArr h0 h1 h2 h3).trans (Cert.QkvIdeal.Pure.final7 m c).symm)
    · obtain ⟨h0, h1, h2, h3⟩ := hagree c
      exact (Cert.QkvRefIdeal.Pure.final8 m' c).trans ((four (fun X W ws (_ : Unit) => Cert.Spec.vArr X W ws) h0 h1 h2 (d := ()) rfl).trans (Cert.QkvIdeal.Pure.final8 m c).symm)
    · obtain ⟨h0, h1, h2, h3⟩ := hagree c
      exact (Cert.QkvRefIdeal.Pure.final9 m' c).trans ((congrArg Cert.Spec.xCodes h0).trans (Cert.QkvIdeal.Pure.final9 m c).symm)
    · obtain ⟨h0, h1, h2, h3⟩ := hagree c
      exact (Cert.QkvRefIdeal.Pure.final10 m' c).trans ((congrArg Cert.Spec.xScales h0).trans (Cert.QkvIdeal.Pure.final10 m c).symm)

end Cert.Qkv

end
-- ==== Proof.Sphere.lean ====
/- A step on the sphere: a row moved from a base towards a branch of unit length, and scaled to unit length again; as
   mathematics of one row, and as the vector operations compute it for any number of rows and columns. -/
module

public import proofs.«01_k».proof.Proof.Rows

@[expose] public section

set_option maxRecDepth 16384

noncomputable section

open Idealize.ShloMosaic Idealize.ShloMosaic.TcCoe Idealize.SL.Sem

namespace Cert.Spec

/-- A row scaled to unit length. -/
def nrm {N : ℕ} (v : Fin N → EReal) (j : Fin N) : EReal :=
  v j * Ideal.rsqrt ((∑ k, v k * v k) + Ideal.ofBits .f32 0x2B8CBCCC#32)

/-- The step from `x` towards the direction of `a`, with step lengths `al`. -/
def sphere {N : ℕ} (al x a : Fin N → EReal) (j : Fin N) : EReal := nrm (fun k => x k + al k * (nrm a k - x k)) j

section
variable {M N : ℕ} (h1 : (⟨2, ![M, N]⟩ : Shape).Reduces [1] ⟨1, ![M]⟩) (h2 : (⟨1, ![M]⟩ : Shape).ShapeCasts ⟨2, ![M, 1]⟩)
  (hb : (⟨2, ![M, 1]⟩ : Shape).Broadcasts ⟨2, ![M, N]⟩) (ha : (⟨2, ![1, N]⟩ : Shape).Broadcasts ⟨2, ![M, N]⟩)

include hb in
/-- A column along the rows. -/
theorem bcol_at (c : FVec Ideal ⟨2, ![M, 1]⟩ .f32) (r : Fin M) (j : Fin N) : broadcastTo ⟨2, ![M, N]⟩ c hb (ix2 r j) = c (ix2 r 0) := by
  pointwise
  refine congrArg c (funext fun a => Fin.ext ?_)
  match a with
  | ⟨0, _⟩ =>
    by_cases h : M = 1
    · subst h
      have := r.isLt
      simp only [Shape.Idx.norm]
      simp
    · simp [Shape.Idx.norm, h]
  | ⟨1, _⟩ => simp [Shape.Idx.norm]

include ha in
/-- A row along the columns. -/
theorem brow_at (c : FVec Ideal ⟨2, ![1, N]⟩ .f32) (r : Fin M) (j : Fin N) : broadcastTo ⟨2, ![M, N]⟩ c ha (ix2 r j) = c (ix2 0 j) := by
  pointwise
  refine congrArg c (funext fun a => Fin.ext ?_)
  match a with
  | ⟨0, _⟩ => simp [Shape.Idx.norm]
  | ⟨1, _⟩ =>
    by_cases h : N = 1
    · subst h
      have := j.isLt
      simp only [Shape.Idx.norm]
      simp
    · simp [Shape.Idx.norm, h]

/-- Rows scaled to unit length. -/
def nrmV (v : FVec Ideal ⟨2, ![M, N]⟩ .f32) : FVec Ideal ⟨2, ![M, N]⟩ .f32 :=
  mulf v (broadcastTo ⟨2, ![M, N]⟩ (rsqrt (addf (shapeCast ⟨2, ![M, 1]⟩
    (multiReduction .add [1] ⟨1, ![M]⟩ (mulf v v) 0x00000000#32 h1 (.inl rfl) rfl) h2)
    (broadcast ⟨2, ![M, 1]⟩ (Scalar.ofBits .f32 0x2B8CBCCC#32)))) hb)

theorem nrmV_at (v : FVec Ideal ⟨2, ![M, N]⟩ .f32) (r : Fin M) (j : Fin N) :
    nrmV h1 h2 hb v (ix2 r j) = nrm (fun k => v (ix2 r k)) j := by
  have e : Shape.reshapeEquiv h2 (ix2 r 0) = ix1 r :=
    Shape.reshapeEquiv_eq_of_vals h2 _ _ r.val (r.val * 1 + 0) (rowMajor_val1 _) (rowMajor_val2 _ 1 rfl) (by omega)
  unfold nrm nrmV
  refine congrArg (fun z : EReal => (show EReal from v (ix2 r j)) * z) ((bcol_at hb _ r j).trans ?_)
  pointwise
  rw [e]
  rfl

/-- The step, all rows at once. -/
def sphereV (x a : FVec Ideal ⟨2, ![M, N]⟩ .f32) (al : FVec Ideal ⟨2, ![1, N]⟩ .f32) : FVec Ideal ⟨2, ![M, N]⟩ .f32 :=
  nrmV h1 h2 hb (addf x (mulf (broadcastTo ⟨2, ![M, N]⟩ al ha) (subf (nrmV h1 h2 hb a) x)))

theorem sphereV_at (x a : FVec Ideal ⟨2, ![M, N]⟩ .f32) (al : FVec Ideal ⟨2, ![1, N]⟩ .f32) (r : Fin M) (j : Fin N) :
    sphereV h1 h2 hb ha x a al (ix2 r j) = sphere (fun k => al (ix2 0 k)) (fun k => x (ix2 r k)) (fun k => a (ix2 r k)) j := by
  refine (nrmV_at h1 h2 hb _ r j).trans ?_
  unfold sphere
  refine congrArg (fun f : Fin N → EReal => nrm f j) (funext fun k => ?_)
  refine Eq.trans ?_ (congrArg (fun z : EReal => (show EReal from x (ix2 r k)) + al (ix2 0 k) * (z - x (ix2 r k))) (nrmV_at h1 h2 hb a r k))
  exact congrArg (fun z : EReal => (show EReal from x (ix2 r k)) + z * (nrmV h1 h2 hb a (ix2 r k) - x (ix2 r k))) (brow_at ha al r k)

end

end Cert.Spec

end
-- ==== Proof.OProjPure.lean ====
/- What one grid point of the output projection computes, read at an index: the vector payloads of the kernel as the
   mathematics of one row. -/
module

public import proofs.«01_k».proof.Proof.Gen.OProjIdeal.Skeleton
public import proofs.«01_k».proof.Proof.Sphere
public import Idealize.ShloMosaic.Lib.Pipeline.ValueKit

@[expose] public section

set_option maxRecDepth 16384

noncomputable section

open Idealize.ShloMosaic Idealize.ShloMosaic.TcCoe Idealize.SL.Sem

namespace Cert.OProjIdeal.Pure

open Cert.OProjIdeal Cert.OProjIdeal.Gen Cert.Spec

/-- The weights times their scales. -/
def wmat (w : FVec Ideal S2560x2560 .fp8e4m3) (ws : FVec Ideal S1x2560 .f32) : FVec Ideal S2560x2560 .bf16 :=
  fun y => (show EReal from w y) * ws (ix2 0 (y 1))

/-- 256 rows of them, as the kernel computes them. -/
def wblk (u : FVec Ideal S256x2560 .fp8e4m3) (ws : FVec Ideal S1x2560 .f32) : FVec Ideal S256x2560 .bf16 :=
  shapeCast S256x2560 (mulf (extf .bf16 u bitsLt_fp8e4m3_bf16) (broadcastTo S256x2560 (truncf .bf16 ws bitsLt_bf16_f32)
    broadcasts_S1x2560_S256x2560)) shapeCasts_S256x2560_S256x2560

/-- A stored block of the scaled weights, at the place the store puts it. -/
theorem wblk_at (w : FVec Ideal S2560x2560 .fp8e4m3) (ws : FVec Ideal S1x2560 .f32) (o : ℕ)
    (hR : ∀ a, (![o, 0] : Fin 2 → Nat) a + S256x2560.size a ≤ S2560x2560.size a) (x : S256x2560.Idx) :
    wblk (View.ld (S := S2560x2560) (Val := Elt Ideal) (e' := .fp8e4m3) w (Rect.unit (s := S2560x2560) ![o, 0] ![256, 2560] hR)) ws x
      = wmat w ws ((Rect.unit (s := S2560x2560) ![o, 0] ![256, 2560] hR).emb x) := by
  obtain ⟨a, b, rfl⟩ : ∃ (a : Fin 256) (b : Fin 2560), x = ix2 a b := ⟨x 0, x 1, eq_ix2 x⟩
  have hlt : o + 256 ≤ 2560 := hR 0
  have e : (Rect.unit (s := S2560x2560) ![o, 0] ![256, 2560] hR).emb (ix2 a b) = ix2 (⟨o + a.val, by omega⟩ : Fin 2560) b := by idx_ext
  rw [e]
  unfold wmat
  pointwise [wblk]

/-- The projection: codes times scaled weights, times the codes' scales. -/
def acc (cd : FVec Ideal S512x2560 .fp8e4m3) (os : FVec Ideal S1x1x512 .f32) (W : FVec Ideal S2560x2560 .bf16) : FVec Ideal S512x2560 .f32 :=
  fun y => (∑ k : Fin 2560, (show EReal from cd (ix2 (y 0) k)) * W (ix2 (y 1) k)) * os (ix3 0 0 (y 0))

/-- A row laid out as a column. -/
theorem rowcol_at (os : FVec Ideal S1x1x512 .f32) (r : Fin 512) : k0_pay17 (F := Ideal) os (ix2 r 0) = os (ix3 0 0 r) := by
  pointwise [k0_pay17]
  repeat' split
  all_goals first | rfl | (congr 1; idx_ext) | (congr 2; exact Fin.ext (by simp; omega))

/-- 512 columns of the projection, as the kernel computes them. -/
def ablk (cd : FVec Ideal S512x2560 .fp8e4m3) (os : FVec Ideal S1x1x512 .f32) (W : FVec Ideal S512x2560 .bf16) : FVec Ideal S512x512 .f32 :=
  shapeCast S512x512 (mulf (matmul (F := Ideal) dot_S512x2560_S512x2560_S512x512_1_1_0_0_n_n none (k0_pay16 (F := Ideal) cd) W (constant S512x512 .f32 0x00000000#32))
    (broadcastTo S512x512 (k0_pay17 (F := Ideal) os) broadcasts_S512x1_S512x512)) shapeCasts_S512x512_S512x512

/-- A stored block of the projection, at the place the store puts it. -/
theorem ablk_at (cd : FVec Ideal S512x2560 .fp8e4m3) (os : FVec Ideal S1x1x512 .f32) (W : FVec Ideal S2560x2560 .bf16) (o : ℕ)
    (hW : ∀ a, (![o, 0] : Fin 2 → Nat) a + S512x2560.size a ≤ S2560x2560.size a)
    (hR : ∀ a, (![0, o] : Fin 2 → Nat) a + S512x512.size a ≤ S512x2560.size a) (x : S512x512.Idx) :
    ablk cd os (View.ld (S := S2560x2560) (Val := Elt Ideal) (e' := .bf16) W (Rect.unit (s := S2560x2560) ![o, 0] ![512, 2560] hW)) x
      = acc cd os W ((Rect.unit (s := S512x2560) ![0, o] ![512, 512] hR).emb x) := by
  obtain ⟨a, b, rfl⟩ : ∃ (a b : Fin 512), x = ix2 a b := ⟨x 0, x 1, eq_ix2 x⟩
  have hlt : o + 512 ≤ 2560 := hW 0
  have e : (Rect.unit (s := S512x2560) ![0, o] ![512, 512] hR).emb (ix2 a b) = ix2 a (⟨o + b.val, by omega⟩ : Fin 2560) := by idx_ext
  rw [e]
  refine Eq.trans ?_ (congrArg (fun z : EReal => (∑ k : Fin 2560, (show EReal from cd (ix2 a k)) * W (ix2 ⟨o + b.val, by omega⟩ k)) * z) (rowcol_at os a))
  unfold ablk
  generalize k0_pay17 (F := Ideal) os = s
  pointwise [k0_pay16]

section
variable (x : FVec Ideal S128x2560 .bf16) (a : FVec Ideal S128x2560 .f32) (al : FVec Ideal S1x2560 .f32)

/-- The step of 128 rows. -/
def hrow : FVec Ideal S128x2560 .f32 :=
  sphereV reduces_S128x2560_S128 shapeCasts_S128_S128x1 broadcasts_S128x1_S128x2560 broadcasts_S1x2560_S128x2560 (extf .f32 x bitsLt_bf16_f32) a al

theorem hrow_at (r : Fin 128) (j : Fin 2560) :
    hrow x a al (ix2 r j) = sphere (fun k => al (ix2 0 k)) (fun k => (show EReal from x (ix2 r k))) (fun k => a (ix2 r k)) j :=
  sphereV_at reduces_S128x2560_S128 shapeCasts_S128_S128x1 broadcasts_S128x1_S128x2560 broadcasts_S1x2560_S128x2560 (extf .f32 x bitsLt_bf16_f32) a al r j

theorem h_0 : k0_pay26 (F := Ideal) (k0_pay24 x) a al (k0_pay25 a) = hrow x a al := rfl
theorem h_1 : k0_pay36 (F := Ideal) (k0_pay33 x) (k0_pay34 x a) (k0_pay35 al) = hrow x a al := rfl
theorem h_2 : k0_pay47 (F := Ideal) (k0_pay45 x a al) (k0_pay46 x a al) = hrow x a al := rfl
theorem h_3 : k0_pay58 (F := Ideal) (k0_pay55 x a al) (k0_pay56 x a al) (k0_pay57 (F := Ideal)) = hrow x a al := rfl

/-- The column the quantiser takes the exponents of. -/
def acol (h : FVec Ideal S128x2560 .f32) : FVec Ideal S128x1 .f32 := qcol reduces_S128x2560_S128 shapeCasts_S128_S128x1 h

theorem c_0 : k0_pay27 (F := Ideal) (k0_pay24 x) a al (k0_pay25 a) = acol (hrow x a al) := rfl
theorem c_1 : k0_pay37 (F := Ideal) (k0_pay33 x) (k0_pay34 x a) (k0_pay35 al) = acol (hrow x a al) := rfl
theorem c_2 : k0_pay48 (F := Ideal) (k0_pay45 x a al) (k0_pay46 x a al) = acol (hrow x a al) := rfl
theorem c_3 : k0_pay59 (F := Ideal) (k0_pay55 x a al) (k0_pay56 x a al) (k0_pay57 (F := Ideal)) = acol (hrow x a al) := rfl

end

section
variable (x : FVec Ideal S128x2560 .bf16) (a : FVec Ideal S128x2560 .f32) (al : FVec Ideal S1x2560 .f32)

/-- The exponents of the rows, from the column the kernel searches. -/
def expsV (h : FVec Ideal S128x2560 .f32) : IVec S128x1 32 := fun i => Cert.Quant.kexpOf (Cert.Quant.kbiased (acol h i))

theorem b_0 : k0_pay30 (F := Ideal) (k0_pay27 (F := Ideal) (k0_pay24 (F := Ideal) x) a al (k0_pay25 (F := Ideal) a)) (k0_pay28 (F := Ideal) (k0_pay24 (F := Ideal) x) a al (k0_pay25 (F := Ideal) a))
    (k0_pay29 (F := Ideal) (k0_pay24 (F := Ideal) x) a al (k0_pay25 (F := Ideal) a)) 23#32 = expsV (hrow x a al) := by
  simp only [k0_pay30, k0_pay29, k0_pay28, c_0]
  rw [vstep_eq, vstep_eq, vstep_eq, vstep_eq, vstep_eq, vstep_eq, vstep_eq, vstep_eq, vfield_eq, vexp_eq]
  rfl

theorem b_1 : k0_pay41 (F := Ideal) (k0_pay37 (F := Ideal) (k0_pay33 (F := Ideal) x) (k0_pay34 (F := Ideal) x a) (k0_pay35 (F := Ideal) al)) (k0_pay38 (F := Ideal) (k0_pay33 (F := Ideal) x) (k0_pay34 (F := Ideal) x a) (k0_pay35 (F := Ideal) al))
    (k0_pay39 (F := Ideal) (k0_pay33 (F := Ideal) x) (k0_pay34 (F := Ideal) x a) (k0_pay35 (F := Ideal) al)) (k0_pay40 (F := Ideal) (k0_pay33 (F := Ideal) x) (k0_pay34 (F := Ideal) x a) (k0_pay35 (F := Ideal) al)) = expsV (hrow x a al) := by
  simp only [k0_pay41, k0_pay40, k0_pay39, k0_pay38, c_1]
  rw [vstep_eq, vstep_eq, vstep_eq, vstep_eq, vstep_eq, vstep_eq, vstep_eq, vstep_eq, vfield_eq, vexp_eq]
  rfl

theorem b_2 : k0_pay51 (F := Ideal) (k0_pay48 (F := Ideal) (k0_pay45 (F := Ideal) x a al) (k0_pay46 (F := Ideal) x a al)) (k0_pay49 (F := Ideal) (k0_pay45 (F := Ideal) x a al) (k0_pay46 (F := Ideal) x a al))
    (k0_pay50 (F := Ideal) (k0_pay45 (F := Ideal) x a al) (k0_pay46 (F := Ideal) x a al)) = expsV (hrow x a al) := by
  simp only [k0_pay51, k0_pay50, k0_pay49, c_2]
  rw [vstep_eq, vstep_eq, vstep_eq, vstep_eq, vstep_eq, vstep_eq, vstep_eq, vstep_eq, vfield_eq, vexp_eq]
  rfl

theorem b_3 : k0_pay63 (F := Ideal) (k0_pay59 (F := Ideal) (k0_pay55 (F := Ideal) x a al) (k0_pay56 (F := Ideal) x a al) (k0_pay57 (F := Ideal)))
    (k0_pay60 (F := Ideal) (k0_pay55 (F := Ideal) x a al) (k0_pay56 (F := Ideal) x a al) (k0_pay57 (F := Ideal))) (k0_pay61 (F := Ideal) (k0_pay55 (F := Ideal) x a al) (k0_pay56 (F := Ideal) x a al) (k0_pay57 (F := Ideal)))
    (k0_pay62 (F := Ideal) (k0_pay55 (F := Ideal) x a al) (k0_pay56 (F := Ideal) x a al) (k0_pay57 (F := Ideal))) = expsV (hrow x a al) := by
  simp only [k0_pay63, k0_pay62, k0_pay61, k0_pay60, c_3]
  rw [vstep_eq, vstep_eq, vstep_eq, vstep_eq, vstep_eq, vstep_eq, vstep_eq, vstep_eq, vfield_eq, vexp_eq]
  rfl

/-- The codes of 128 rows. -/
def codesV (h : FVec Ideal S128x2560 .f32) : FVec Ideal S128x2560 .fp8e4m3 :=
  truncf .fp8e4m3 (minimumf (broadcast S128x2560 (Scalar.ofBits .f32 0x43E00000#32)) (maximumf (broadcast S128x2560 (Scalar.ofBits .f32 0xC3E00000#32))
    (mulf h (broadcastTo S128x2560 (fun i => Cert.Quant.kinv (acol h i)) broadcasts_S128x1_S128x2560)))) bitsLt_fp8e4m3_f32

/-- A column of 128 laid out as a row. -/
def layV (v : FVec Ideal S128x1 .f32) : FVec Ideal S1x1x128 .f32 :=
  shapeCast S1x1x128 (extractStridedSlice S1x128 ![0, 0] (transpose S128x128 [1, 0] (broadcastTo S128x128 (shapeCast S128x1 v
    shapeCasts_S128x1_S128x1) broadcasts_S128x1_S128x128) transposes_S128x128_p1_0_S128x128) slices_S128x128_o0_0_S1x128) shapeCasts_S1x128_S1x1x128

/-- The scales of 128 rows. -/
def scalesV (h : FVec Ideal S128x2560 .f32) : FVec Ideal S1x1x128 .f32 := layV fun i => Cert.Quant.kscale (acol h i)

theorem codesV_of (h : FVec Ideal S128x2560 .f32) (A : FVec Ideal S128x1 .f32) (r : Fin 128) (j : Fin 2560) :
    (truncf .fp8e4m3 (minimumf (broadcast S128x2560 (Scalar.ofBits .f32 0x43E00000#32)) (maximumf (broadcast S128x2560 (Scalar.ofBits .f32 0xC3E00000#32))
    (mulf h (broadcastTo S128x2560 (fun i => Cert.Quant.kinv (A i)) broadcasts_S128x1_S128x2560)))) bitsLt_fp8e4m3_f32 : FVec Ideal S128x2560 .fp8e4m3) (ix2 r j)
      = min (Ideal.ofBits .f32 0x43E00000#32) (max (Ideal.ofBits .f32 0xC3E00000#32) (h (ix2 r j) * Cert.Quant.rinv (A (ix2 r 0)))) := by
  rw [← Cert.Quant.kinv_eq]
  pointwise

theorem codesV_at (h : FVec Ideal S128x2560 .f32) (r : Fin 128) (j : Fin 2560) : codesV h (ix2 r j) = qcode (fun k : Fin 2560 => h (ix2 r k)) j := by
  refine (codesV_of h (acol h) r j).trans ?_
  unfold qcode
  rw [show acol h (ix2 r 0) = qin fun k : Fin 2560 => h (ix2 r k) from qcol_at reduces_S128x2560_S128 shapeCasts_S128_S128x1 h r]

theorem layV_at (v : FVec Ideal S128x1 .f32) (r : Fin 128) : layV v (ix3 0 0 r) = v (ix2 r 0) := by
  pointwise [layV]

theorem scalesV_at (h : FVec Ideal S128x2560 .f32) (r : Fin 128) : scalesV h (ix3 0 0 r) = qscale fun k : Fin 2560 => h (ix2 r k) := by
  refine (layV_at _ r).trans ((Cert.Quant.kscale_eq _).trans ?_)
  unfold qscale
  exact congrArg Cert.Quant.rscale (qcol_at reduces_S128x2560_S128 shapeCasts_S128_S128x1 h r)

theorem q_0 : k0_pay31 (F := Ideal) (k0_pay26 (F := Ideal) (k0_pay24 (F := Ideal) x) a al (k0_pay25 (F := Ideal) a)) (k0_pay30 (F := Ideal) (k0_pay27 (F := Ideal) (k0_pay24 (F := Ideal) x) a al (k0_pay25 (F := Ideal) a))
    (k0_pay28 (F := Ideal) (k0_pay24 (F := Ideal) x) a al (k0_pay25 (F := Ideal) a)) (k0_pay29 (F := Ideal) (k0_pay24 (F := Ideal) x) a al (k0_pay25 (F := Ideal) a)) 23#32) = codesV (hrow x a al) := by
  rw [b_0, h_0]; generalize hrow x a al = h; simp only [k0_pay31]; delta expsV; rw [vinv_eq]; rfl

theorem q_1 : k0_pay43 (F := Ideal) (k0_pay36 (F := Ideal) (k0_pay33 (F := Ideal) x) (k0_pay34 (F := Ideal) x a) (k0_pay35 (F := Ideal) al)) (k0_pay42 (F := Ideal) (k0_pay37 (F := Ideal) (k0_pay33 (F := Ideal) x) (k0_pay34 (F := Ideal) x a) (k0_pay35 (F := Ideal) al))
    (k0_pay38 (F := Ideal) (k0_pay33 (F := Ideal) x) (k0_pay34 (F := Ideal) x a) (k0_pay35 (F := Ideal) al)) (k0_pay39 (F := Ideal) (k0_pay33 (F := Ideal) x) (k0_pay34 (F := Ideal) x a) (k0_pay35 (F := Ideal) al))
    (k0_pay40 (F := Ideal) (k0_pay33 (F := Ideal) x) (k0_pay34 (F := Ideal) x a) (k0_pay35 (F := Ideal) al))) 23#32 = codesV (hrow x a al) := by
  simp only [k0_pay42]; rw [b_1, h_1]; generalize hrow x a al = h; simp only [k0_pay43]; delta expsV; rw [vinv_eq]; rfl

theorem q_2 : k0_pay53 (F := Ideal) (k0_pay47 (F := Ideal) (k0_pay45 (F := Ideal) x a al) (k0_pay46 (F := Ideal) x a al)) (k0_pay52 (F := Ideal) (k0_pay48 (F := Ideal) (k0_pay45 (F := Ideal) x a al) (k0_pay46 (F := Ideal) x a al))
    (k0_pay49 (F := Ideal) (k0_pay45 (F := Ideal) x a al) (k0_pay46 (F := Ideal) x a al)) (k0_pay50 (F := Ideal) (k0_pay45 (F := Ideal) x a al) (k0_pay46 (F := Ideal) x a al))) = codesV (hrow x a al) := by
  simp only [k0_pay52]; rw [b_2, h_2]; generalize hrow x a al = h; simp only [k0_pay53]; delta expsV; rw [vinv_eq]; rfl

theorem q_3 : k0_pay1 (F := Ideal) (k0_pay58 (F := Ideal) (k0_pay55 (F := Ideal) x a al) (k0_pay56 (F := Ideal) x a al) (k0_pay57 (F := Ideal)))
    (k0_pay64 (F := Ideal) (k0_pay59 (F := Ideal) (k0_pay55 (F := Ideal) x a al) (k0_pay56 (F := Ideal) x a al) (k0_pay57 (F := Ideal)))
    (k0_pay60 (F := Ideal) (k0_pay55 (F := Ideal) x a al) (k0_pay56 (F := Ideal) x a al) (k0_pay57 (F := Ideal))) (k0_pay61 (F := Ideal) (k0_pay55 (F := Ideal) x a al) (k0_pay56 (F := Ideal) x a al) (k0_pay57 (F := Ideal)))
    (k0_pay62 (F := Ideal) (k0_pay55 (F := Ideal) x a al) (k0_pay56 (F := Ideal) x a al) (k0_pay57 (F := Ideal)))) = codesV (hrow x a al) := by
  simp only [k0_pay64]; rw [b_3, h_3]; generalize hrow x a al = h; simp only [k0_pay1]; delta expsV; rw [vinv_eq]; rfl

theorem s_0 : k0_pay32 (F := Ideal) (k0_pay30 (F := Ideal) (k0_pay27 (F := Ideal) (k0_pay24 (F := Ideal) x) a al (k0_pay25 (F := Ideal) a))
    (k0_pay28 (F := Ideal) (k0_pay24 (F := Ideal) x) a al (k0_pay25 (F := Ideal) a)) (k0_pay29 (F := Ideal) (k0_pay24 (F := Ideal) x) a al (k0_pay25 (F := Ideal) a)) 23#32) = scalesV (hrow x a al) := by
  rw [b_0]; generalize hrow x a al = h; simp only [k0_pay32]; delta expsV; rw [vscale_eq]; rfl

theorem s_1 : k0_pay44 (F := Ideal) (k0_pay41 (F := Ideal) (k0_pay37 (F := Ideal) (k0_pay33 (F := Ideal) x) (k0_pay34 (F := Ideal) x a) (k0_pay35 (F := Ideal) al))
    (k0_pay38 (F := Ideal) (k0_pay33 (F := Ideal) x) (k0_pay34 (F := Ideal) x a) (k0_pay35 (F := Ideal) al)) (k0_pay39 (F := Ideal) (k0_pay33 (F := Ideal) x) (k0_pay34 (F := Ideal) x a) (k0_pay35 (F := Ideal) al))
    (k0_pay40 (F := Ideal) (k0_pay33 (F := Ideal) x) (k0_pay34 (F := Ideal) x a) (k0_pay35 (F := Ideal) al))) = scalesV (hrow x a al) := by
  rw [b_1]; generalize hrow x a al = h; simp only [k0_pay44]; delta expsV; rw [vscale_eq]; rfl

theorem s_2 : k0_pay54 (F := Ideal) (k0_pay51 (F := Ideal) (k0_pay48 (F := Ideal) (k0_pay45 (F := Ideal) x a al) (k0_pay46 (F := Ideal) x a al)) (k0_pay49 (F := Ideal) (k0_pay45 (F := Ideal) x a al) (k0_pay46 (F := Ideal) x a al))
    (k0_pay50 (F := Ideal) (k0_pay45 (F := Ideal) x a al) (k0_pay46 (F := Ideal) x a al))) 127#32 = scalesV (hrow x a al) := by
  rw [b_2]; generalize hrow x a al = h; simp only [k0_pay54]; delta expsV; rw [vscale_eq]; rfl

theorem s_3 : k0_pay2 (F := Ideal) (k0_pay65 (F := Ideal) (k0_pay59 (F := Ideal) (k0_pay55 (F := Ideal) x a al) (k0_pay56 (F := Ideal) x a al) (k0_pay57 (F := Ideal)))
    (k0_pay60 (F := Ideal) (k0_pay55 (F := Ideal) x a al) (k0_pay56 (F := Ideal) x a al) (k0_pay57 (F := Ideal))) (k0_pay61 (F := Ideal) (k0_pay55 (F := Ideal) x a al) (k0_pay56 (F := Ideal) x a al) (k0_pay57 (F := Ideal)))
    (k0_pay62 (F := Ideal) (k0_pay55 (F := Ideal) x a al) (k0_pay56 (F := Ideal) x a al) (k0_pay57 (F := Ideal)))) k0_pay66 = scalesV (hrow x a al) := by
  simp only [k0_pay65, k0_pay66]; rw [b_3]; generalize hrow x a al = h; simp only [k0_pay2]; delta expsV; rw [vscale_eq]; rfl

end

section
variable (x : FVec Ideal S512x2560 .bf16) (a : FVec Ideal S512x2560 .f32) (al : FVec Ideal S1x2560 .f32)

/-- One row of the step, from the rows of a grid point. -/
def rowH (r : Fin 512) : Fin 2560 → EReal :=
  sphere (fun k => al (ix2 0 k)) (fun k => (show EReal from x (ix2 r k))) (fun k => a (ix2 r k))

/-- A row of 128 of them is the row of the whole at its place. -/
theorem hrow_ld (o : ℕ) (hR : ∀ i, (![o, 0] : Fin 2 → Nat) i + S128x2560.size i ≤ S512x2560.size i) (p : Fin 128) (r : Fin 512) (hr : r.val = o + p.val) (j : Fin 2560) :
    hrow (View.ld (S := S512x2560) (Val := Elt Ideal) (e' := .bf16) x (Rect.unit (s := S512x2560) ![o, 0] ![128, 2560] hR))
      (View.ld (S := S512x2560) (Val := Elt Ideal) (e' := .f32) a (Rect.unit (s := S512x2560) ![o, 0] ![128, 2560] hR)) al (ix2 p j)
      = rowH x a al r j := by
  refine (hrow_at _ _ _ p j).trans ?_
  have e : ∀ k : Fin 2560, (Rect.unit (s := S512x2560) ![o, 0] ![128, 2560] hR).emb (ix2 p k) = ix2 r k := fun k => by
    have hlt : o + 128 ≤ 512 := hR 0
    have hr' : r = (⟨o + p.val, by omega⟩ : Fin 512) := Fin.ext hr
    rw [hr']
    idx_ext
  unfold rowH
  have ex : (fun k : Fin 2560 => (show EReal from (View.ld (S := S512x2560) (Val := Elt Ideal) (e' := .bf16) x (Rect.unit (s := S512x2560) ![o, 0] ![128, 2560] hR)) (ix2 p k)))
      = fun k => (show EReal from x (ix2 r k)) := funext fun k => congrArg x (e k)
  have ea : (fun k : Fin 2560 => (show EReal from (View.ld (S := S512x2560) (Val := Elt Ideal) (e' := .f32) a (Rect.unit (s := S512x2560) ![o, 0] ![128, 2560] hR)) (ix2 p k)))
      = fun k => (show EReal from a (ix2 r k)) := funext fun k => congrArg a (e k)
  exact congrArg₂ (fun u v : Fin 2560 → EReal => sphere (fun k => al (ix2 0 k)) u v j) ex ea

/-- What a grid point leaves: the rows, their codes and their scales. -/
def hAll : FVec Ideal S512x2560 .f32 := fun y => rowH x a al (y 0) (y 1)
def cAll : FVec Ideal S512x2560 .fp8e4m3 := fun y => qcode (rowH x a al (y 0)) (y 1)
def sAll : FVec Ideal S1x1x512 .f32 := fun y => qscale (rowH x a al (y 2))

theorem hpiece (o : ℕ) (hR : ∀ i, (![o, 0] : Fin 2 → Nat) i + S128x2560.size i ≤ S512x2560.size i) (y : S128x2560.Idx) :
    hrow (View.ld (S := S512x2560) (Val := Elt Ideal) (e' := .bf16) x (Rect.unit (s := S512x2560) ![o, 0] ![128, 2560] hR))
      (View.ld (S := S512x2560) (Val := Elt Ideal) (e' := .f32) a (Rect.unit (s := S512x2560) ![o, 0] ![128, 2560] hR)) al y
      = hAll x a al ((Rect.unit (s := S512x2560) ![o, 0] ![128, 2560] hR).emb y) := by
  obtain ⟨p, j, rfl⟩ : ∃ (p : Fin 128) (j : Fin 2560), y = ix2 p j := ⟨y 0, y 1, eq_ix2 y⟩
  have hlt : o + 128 ≤ 512 := hR 0
  have e : (Rect.unit (s := S512x2560) ![o, 0] ![128, 2560] hR).emb (ix2 p j) = ix2 (⟨o + p.val, by omega⟩ : Fin 512) j := by idx_ext
  rw [e]
  exact hrow_ld x a al o hR p ⟨o + p.val, by omega⟩ rfl j

theorem cpiece (o : ℕ) (hR : ∀ i, (![o, 0] : Fin 2 → Nat) i + S128x2560.size i ≤ S512x2560.size i) (y : S128x2560.Idx) :
    codesV (hrow (View.ld (S := S512x2560) (Val := Elt Ideal) (e' := .bf16) x (Rect.unit (s := S512x2560) ![o, 0] ![128, 2560] hR))
      (View.ld (S := S512x2560) (Val := Elt Ideal) (e' := .f32) a (Rect.unit (s := S512x2560) ![o, 0] ![128, 2560] hR)) al) y
      = cAll x a al ((Rect.unit (s := S512x2560) ![o, 0] ![128, 2560] hR).emb y) := by
  obtain ⟨p, j, rfl⟩ : ∃ (p : Fin 128) (j : Fin 2560), y = ix2 p j := ⟨y 0, y 1, eq_ix2 y⟩
  have hlt : o + 128 ≤ 512 := hR 0
  have e : (Rect.unit (s := S512x2560) ![o, 0] ![128, 2560] hR).emb (ix2 p j) = ix2 (⟨o + p.val, by omega⟩ : Fin 512) j := by idx_ext
  rw [e]
  refine (codesV_at _ p j).trans ?_
  exact congrArg (fun v : Fin 2560 → EReal => qcode v j) (funext fun k => hrow_ld x a al o hR p ⟨o + p.val, by omega⟩ rfl k)

theorem spiece (o : ℕ) (hR : ∀ i, (![o, 0] : Fin 2 → Nat) i + S128x2560.size i ≤ S512x2560.size i)
    (hS : ∀ i, (![0, 0, o] : Fin 3 → Nat) i + S1x1x128.size i ≤ S1x1x512.size i) (y : S1x1x128.Idx) :
    scalesV (hrow (View.ld (S := S512x2560) (Val := Elt Ideal) (e' := .bf16) x (Rect.unit (s := S512x2560) ![o, 0] ![128, 2560] hR))
      (View.ld (S := S512x2560) (Val := Elt Ideal) (e' := .f32) a (Rect.unit (s := S512x2560) ![o, 0] ![128, 2560] hR)) al) y
      = sAll x a al ((Rect.unit (s := S1x1x512) ![0, 0, o] ![1, 1, 128] hS).emb y) := by
  obtain ⟨z, z', p, rfl⟩ : ∃ (z z' : Fin 1) (p : Fin 128), y = ix3 z z' p := ⟨y 0, y 1, y 2, eq_ix3 y⟩
  obtain rfl : z = 0 := Subsingleton.elim _ _
  obtain rfl : z' = 0 := Subsingleton.elim _ _
  have hlt : o + 128 ≤ 512 := hR 0
  have e : (Rect.unit (s := S1x1x512) ![0, 0, o] ![1, 1, 128] hS).emb (ix3 0 0 p) = ix3 0 0 (⟨o + p.val, by omega⟩ : Fin 512) := by idx_ext
  rw [e]
  refine (scalesV_at _ p).trans ?_
  exact congrArg qscale (funext fun k => hrow_ld x a al o hR p ⟨o + p.val, by omega⟩ rfl k)

end

end Cert.OProjIdeal.Pure

end
-- ==== Proof.OProjPieces.lean ====
/- The stores of one grid point of the output projection put together: the scratch read back, and what each of the three
   output buffers holds after its four stores. -/
module

public import proofs.«01_k».proof.Proof.Gen.OProjIdeal.Frame
public import proofs.«01_k».proof.Proof.OProjPure

@[expose] public section

set_option maxRecDepth 16384

noncomputable section

open Idealize.ShloMosaic Idealize.ShloMosaic.TcCoe Idealize.SL.Sem Idealize.ShloMosaic.Tactic

namespace Cert.OProjIdeal.Pure

open Cert.OProjIdeal Cert.OProjIdeal.Gen Cert.Spec

/-- The scaled weights, as the ten stores leave them. -/
theorem wcanon (w : FVec Ideal S2560x2560 .fp8e4m3) (ws : FVec Ideal S1x2560 .f32) (y : S2560x2560.Idx) :
    View.canon (Val := Elt Ideal) (s := S2560x2560) (e := .bf16) [⟨Rect.unit (s := S2560x2560) ![2304, 0] ![256, 2560] inb_S2560x2560_S256x2560_2304_0, k0_pay15 (View.ld (S := S2560x2560) (Val := Elt Ideal) (e' := .fp8e4m3) w (Rect.unit (s := S2560x2560) ![2304, 0] ![256, 2560] inb_S2560x2560_S256x2560_2304_0)) ws⟩,
      ⟨Rect.unit (s := S2560x2560) ![2048, 0] ![256, 2560] inb_S2560x2560_S256x2560_2048_0, k0_pay14 (View.ld (S := S2560x2560) (Val := Elt Ideal) (e' := .fp8e4m3) w (Rect.unit (s := S2560x2560) ![2048, 0] ![256, 2560] inb_S2560x2560_S256x2560_2048_0)) ws⟩,
      ⟨Rect.unit (s := S2560x2560) ![1792, 0] ![256, 2560] inb_S2560x2560_S256x2560_1792_0, k0_pay13 (k0_pay11 (View.ld (S := S2560x2560) (Val := Elt Ideal) (e' := .fp8e4m3) w (Rect.unit (s := S2560x2560) ![1792, 0] ![256, 2560] inb_S2560x2560_S256x2560_1792_0))) (k0_pay12 ws)⟩,
      ⟨Rect.unit (s := S2560x2560) ![1536, 0] ![256, 2560] inb_S2560x2560_S256x2560_1536_0, k0_pay10 (View.ld (S := S2560x2560) (Val := Elt Ideal) (e' := .fp8e4m3) w (Rect.unit (s := S2560x2560) ![1536, 0] ![256, 2560] inb_S2560x2560_S256x2560_1536_0)) ws⟩,
      ⟨Rect.unit (s := S2560x2560) ![1280, 0] ![256, 2560] inb_S2560x2560_S256x2560_1280_0, k0_pay9 (View.ld (S := S2560x2560) (Val := Elt Ideal) (e' := .fp8e4m3) w (Rect.unit (s := S2560x2560) ![1280, 0] ![256, 2560] inb_S2560x2560_S256x2560_1280_0)) ws⟩,
      ⟨Rect.unit (s := S2560x2560) ![1024, 0] ![256, 2560] inb_S2560x2560_S256x2560_1024_0, k0_pay8 (View.ld (S := S2560x2560) (Val := Elt Ideal) (e' := .fp8e4m3) w (Rect.unit (s := S2560x2560) ![1024, 0] ![256, 2560] inb_S2560x2560_S256x2560_1024_0)) ws⟩,
      ⟨Rect.unit (s := S2560x2560) ![768, 0] ![256, 2560] inb_S2560x2560_S256x2560_768_0, k0_pay7 (k0_pay6 (View.ld (S := S2560x2560) (Val := Elt Ideal) (e' := .fp8e4m3) w (Rect.unit (s := S2560x2560) ![768, 0] ![256, 2560] inb_S2560x2560_S256x2560_768_0)) ws)⟩,
      ⟨Rect.unit (s := S2560x2560) ![512, 0] ![256, 2560] inb_S2560x2560_S256x2560_512_0, k0_pay5 (View.ld (S := S2560x2560) (Val := Elt Ideal) (e' := .fp8e4m3) w (Rect.unit (s := S2560x2560) ![512, 0] ![256, 2560] inb_S2560x2560_S256x2560_512_0)) ws⟩,
      ⟨Rect.unit (s := S2560x2560) ![256, 0] ![256, 2560] inb_S2560x2560_S256x2560_256_0, k0_pay4 (View.ld (S := S2560x2560) (Val := Elt Ideal) (e' := .fp8e4m3) w (Rect.unit (s := S2560x2560) ![256, 0] ![256, 2560] inb_S2560x2560_S256x2560_256_0)) ws⟩,
      ⟨Rect.unit (s := S2560x2560) ![0, 0] ![256, 2560] inb_S2560x2560_S256x2560_0_0, k0_pay3 (View.ld (S := S2560x2560) (Val := Elt Ideal) (e' := .fp8e4m3) w (Rect.unit (s := S2560x2560) ![0, 0] ![256, 2560] inb_S2560x2560_S256x2560_0_0)) ws⟩] y = wmat w ws y := by
  refine View.canon_apply_of_pieces (S := S2560x2560) (Val := Elt Ideal) (e := .bf16) (wmat w ws) _ ?_ _ ?_
  · iterate 10 refine List.forall_mem_cons.mpr ⟨fun x => wblk_at w ws _ (by decide) x, ?_⟩
    exact fun p hp => absurd hp (List.not_mem_nil)
  · exact View.cover_of_tiledL (s := S2560x2560) _ ![256, 2560] (by sl_kernel_rfl) _

/-- The scaled weights, read back from the scratch they were stored into block by block. -/
theorem wread (v : View sig .tc .vmem S2560x2560 .bf16) (w : FVec Ideal S2560x2560 .fp8e4m3) (ws : FVec Ideal S1x2560 .f32) (R : Rect S2560x2560) :
    v.readCov (Val := Elt Ideal) [⟨Rect.unit (s := S2560x2560) ![2304, 0] ![256, 2560] inb_S2560x2560_S256x2560_2304_0, k0_pay15 (View.ld (S := S2560x2560) (Val := Elt Ideal) (e' := .fp8e4m3) w (Rect.unit (s := S2560x2560) ![2304, 0] ![256, 2560] inb_S2560x2560_S256x2560_2304_0)) ws⟩,
      ⟨Rect.unit (s := S2560x2560) ![2048, 0] ![256, 2560] inb_S2560x2560_S256x2560_2048_0, k0_pay14 (View.ld (S := S2560x2560) (Val := Elt Ideal) (e' := .fp8e4m3) w (Rect.unit (s := S2560x2560) ![2048, 0] ![256, 2560] inb_S2560x2560_S256x2560_2048_0)) ws⟩,
      ⟨Rect.unit (s := S2560x2560) ![1792, 0] ![256, 2560] inb_S2560x2560_S256x2560_1792_0, k0_pay13 (k0_pay11 (View.ld (S := S2560x2560) (Val := Elt Ideal) (e' := .fp8e4m3) w (Rect.unit (s := S2560x2560) ![1792, 0] ![256, 2560] inb_S2560x2560_S256x2560_1792_0))) (k0_pay12 ws)⟩,
      ⟨Rect.unit (s := S2560x2560) ![1536, 0] ![256, 2560] inb_S2560x2560_S256x2560_1536_0, k0_pay10 (View.ld (S := S2560x2560) (Val := Elt Ideal) (e' := .fp8e4m3) w (Rect.unit (s := S2560x2560) ![1536, 0] ![256, 2560] inb_S2560x2560_S256x2560_1536_0)) ws⟩,
      ⟨Rect.unit (s := S2560x2560) ![1280, 0] ![256, 2560] inb_S2560x2560_S256x2560_1280_0, k0_pay9 (View.ld (S := S2560x2560) (Val := Elt Ideal) (e' := .fp8e4m3) w (Rect.unit (s := S2560x2560) ![1280, 0] ![256, 2560] inb_S2560x2560_S256x2560_1280_0)) ws⟩,
      ⟨Rect.unit (s := S2560x2560) ![1024, 0] ![256, 2560] inb_S2560x2560_S256x2560_1024_0, k0_pay8 (View.ld (S := S2560x2560) (Val := Elt Ideal) (e' := .fp8e4m3) w (Rect.unit (s := S2560x2560) ![1024, 0] ![256, 2560] inb_S2560x2560_S256x2560_1024_0)) ws⟩,
      ⟨Rect.unit (s := S2560x2560) ![768, 0] ![256, 2560] inb_S2560x2560_S256x2560_768_0, k0_pay7 (k0_pay6 (View.ld (S := S2560x2560) (Val := Elt Ideal) (e' := .fp8e4m3) w (Rect.unit (s := S2560x2560) ![768, 0] ![256, 2560] inb_S2560x2560_S256x2560_768_0)) ws)⟩,
      ⟨Rect.unit (s := S2560x2560) ![512, 0] ![256, 2560] inb_S2560x2560_S256x2560_512_0, k0_pay5 (View.ld (S := S2560x2560) (Val := Elt Ideal) (e' := .fp8e4m3) w (Rect.unit (s := S2560x2560) ![512, 0] ![256, 2560] inb_S2560x2560_S256x2560_512_0)) ws⟩,
      ⟨Rect.unit (s := S2560x2560) ![256, 0] ![256, 2560] inb_S2560x2560_S256x2560_256_0, k0_pay4 (View.ld (S := S2560x2560) (Val := Elt Ideal) (e' := .fp8e4m3) w (Rect.unit (s := S2560x2560) ![256, 0] ![256, 2560] inb_S2560x2560_S256x2560_256_0)) ws⟩,
      ⟨Rect.unit (s := S2560x2560) ![0, 0] ![256, 2560] inb_S2560x2560_S256x2560_0_0, k0_pay3 (View.ld (S := S2560x2560) (Val := Elt Ideal) (e' := .fp8e4m3) w (Rect.unit (s := S2560x2560) ![0, 0] ![256, 2560] inb_S2560x2560_S256x2560_0_0)) ws⟩] R.toLoadRect
      = View.ld (S := S2560x2560) (Val := Elt Ideal) (e' := .bf16) (wmat w ws) R := by
  rw [View.readCov_eq_canon_ld _ _ _ ?hc]
  case hc => exact fun y => View.cover_of_tiledL (s := S2560x2560) _ ![256, 2560] (by sl_kernel_rfl) y
  exact congrArg (fun f => View.ld (S := S2560x2560) (Val := Elt Ideal) (e' := .bf16) f R) (funext fun y => wcanon w ws y)

/-- The projection, read back from the scratch it was stored into block by block. -/
theorem aread (v : View sig .tc .vmem S512x2560 .f32) (cd : FVec Ideal S512x2560 .fp8e4m3) (os : FVec Ideal S1x1x512 .f32) (W : FVec Ideal S2560x2560 .bf16) (R : Rect S512x2560) :
    v.readCov (Val := Elt Ideal) [⟨Rect.unit (s := S512x2560) ![0, 2048] ![512, 512] inb_S512x2560_S512x512_0_2048, k0_pay23 (F := Ideal) (k0_pay16 cd) (k0_pay17 os) (View.ld (S := S2560x2560) (Val := Elt Ideal) (e' := .bf16) W (Rect.unit (s := S2560x2560) ![2048, 0] ![512, 2560] inb_S2560x2560_S512x2560_2048_0))⟩,
      ⟨Rect.unit (s := S512x2560) ![0, 1536] ![512, 512] inb_S512x2560_S512x512_0_1536, k0_pay22 (F := Ideal) (k0_pay16 cd) (k0_pay17 os) (View.ld (S := S2560x2560) (Val := Elt Ideal) (e' := .bf16) W (Rect.unit (s := S2560x2560) ![1536, 0] ![512, 2560] inb_S2560x2560_S512x2560_1536_0))⟩,
      ⟨Rect.unit (s := S512x2560) ![0, 1024] ![512, 512] inb_S512x2560_S512x512_0_1024, k0_pay21 (F := Ideal) (k0_pay16 cd) (k0_pay17 os) (View.ld (S := S2560x2560) (Val := Elt Ideal) (e' := .bf16) W (Rect.unit (s := S2560x2560) ![1024, 0] ![512, 2560] inb_S2560x2560_S512x2560_1024_0))⟩,
      ⟨Rect.unit (s := S512x2560) ![0, 512] ![512, 512] inb_S512x2560_S512x512_0_512, k0_pay20 (F := Ideal) (k0_pay19 cd os (View.ld (S := S2560x2560) (Val := Elt Ideal) (e' := .bf16) W (Rect.unit (s := S2560x2560) ![512, 0] ![512, 2560] inb_S2560x2560_S512x2560_512_0)))⟩,
      ⟨Rect.unit (s := S512x2560) ![0, 0] ![512, 512] inb_S512x2560_S512x512_0_0, k0_pay18 (F := Ideal) cd os (View.ld (S := S2560x2560) (Val := Elt Ideal) (e' := .bf16) W (Rect.unit (s := S2560x2560) ![0, 0] ![512, 2560] inb_S2560x2560_S512x2560_0_0))⟩] R.toLoadRect
      = View.ld (S := S512x2560) (Val := Elt Ideal) (e' := .f32) (acc cd os W) R := by
  rw [View.readCov_eq_canon_ld _ _ _ ?hc]
  case hc => exact fun y => View.cover_of_tiledL (s := S512x2560) _ ![512, 512] (by sl_kernel_rfl) y
  refine congrArg (fun f => View.ld (S := S512x2560) (Val := Elt Ideal) (e' := .f32) f R) (funext fun y => ?_)
  refine View.canon_apply_of_pieces (S := S512x2560) (Val := Elt Ideal) (e := .f32) (acc cd os W) _ ?_ _ ?_
  · iterate 5 refine List.forall_mem_cons.mpr ⟨fun x => ablk_at cd os W _ (by decide) (by decide) x, ?_⟩
    exact fun p hp => absurd hp (List.not_mem_nil)
  · exact View.cover_of_tiledL (s := S512x2560) _ ![512, 512] (by sl_kernel_rfl) _

/-- The rows, as the four stores leave them. -/
theorem hcanon (x : FVec Ideal S512x2560 .bf16) (a : FVec Ideal S512x2560 .f32) (al : FVec Ideal S1x2560 .f32) (y : S512x2560.Idx) :
    View.canon (Val := Elt Ideal) (s := S512x2560) (e := .f32) [⟨Rect.unit (s := S512x2560) ![384, 0] ![128, 2560] inb_S512x2560_S128x2560_384_0, k0_pay58 (F := Ideal) (k0_pay55 (F := Ideal) (View.ld (S := S512x2560) (Val := Elt Ideal) (e' := .bf16) x (Rect.unit (s := S512x2560) ![384, 0] ![128, 2560] inb_S512x2560_S128x2560_384_0)) (View.ld (S := S512x2560) (Val := Elt Ideal) (e' := .f32) a (Rect.unit (s := S512x2560) ![384, 0] ![128, 2560] inb_S512x2560_S128x2560_384_0)) al) (k0_pay56 (F := Ideal) (View.ld (S := S512x2560) (Val := Elt Ideal) (e' := .bf16) x (Rect.unit (s := S512x2560) ![384, 0] ![128, 2560] inb_S512x2560_S128x2560_384_0)) (View.ld (S := S512x2560) (Val := Elt Ideal) (e' := .f32) a (Rect.unit (s := S512x2560) ![384, 0] ![128, 2560] inb_S512x2560_S128x2560_384_0)) al) (k0_pay57 (F := Ideal))⟩,
      ⟨Rect.unit (s := S512x2560) ![256, 0] ![128, 2560] inb_S512x2560_S128x2560_256_0, k0_pay47 (F := Ideal) (k0_pay45 (F := Ideal) (View.ld (S := S512x2560) (Val := Elt Ideal) (e' := .bf16) x (Rect.unit (s := S512x2560) ![256, 0] ![128, 2560] inb_S512x2560_S128x2560_256_0)) (View.ld (S := S512x2560) (Val := Elt Ideal) (e' := .f32) a (Rect.unit (s := S512x2560) ![256, 0] ![128, 2560] inb_S512x2560_S128x2560_256_0)) al) (k0_pay46 (F := Ideal) (View.ld (S := S512x2560) (Val := Elt Ideal) (e' := .bf16) x (Rect.unit (s := S512x2560) ![256, 0] ![128, 2560] inb_S512x2560_S128x2560_256_0)) (View.ld (S := S512x2560) (Val := Elt Ideal) (e' := .f32) a (Rect.unit (s := S512x2560) ![256, 0] ![128, 2560] inb_S512x2560_S128x2560_256_0)) al)⟩,
      ⟨Rect.unit (s := S512x2560) ![128, 0] ![128, 2560] inb_S512x2560_S128x2560_128_0, k0_pay36 (F := Ideal) (k0_pay33 (F := Ideal) (View.ld (S := S512x2560) (Val := Elt Ideal) (e' := .bf16) x (Rect.unit (s := S512x2560) ![128, 0] ![128, 2560] inb_S512x2560_S128x2560_128_0))) (k0_pay34 (F := Ideal) (View.ld (S := S512x2560) (Val := Elt Ideal) (e' := .bf16) x (Rect.unit (s := S512x2560) ![128, 0] ![128, 2560] inb_S512x2560_S128x2560_128_0)) (View.ld (S := S512x2560) (Val := Elt Ideal) (e' := .f32) a (Rect.unit (s := S512x2560) ![128, 0] ![128, 2560] inb_S512x2560_S128x2560_128_0))) (k0_pay35 (F := Ideal) al)⟩,
      ⟨Rect.unit (s := S512x2560) ![0, 0] ![128, 2560] inb_S512x2560_S128x2560_0_0, k0_pay26 (F := Ideal) (k0_pay24 (F := Ideal) (View.ld (S := S512x2560) (Val := Elt Ideal) (e' := .bf16) x (Rect.unit (s := S512x2560) ![0, 0] ![128, 2560] inb_S512x2560_S128x2560_0_0))) (View.ld (S := S512x2560) (Val := Elt Ideal) (e' := .f32) a (Rect.unit (s := S512x2560) ![0, 0] ![128, 2560] inb_S512x2560_S128x2560_0_0)) al (k0_pay25 (F := Ideal) (View.ld (S := S512x2560) (Val := Elt Ideal) (e' := .f32) a (Rect.unit (s := S512x2560) ![0, 0] ![128, 2560] inb_S512x2560_S128x2560_0_0)))⟩] y = hAll x a al y := by
  refine View.canon_apply_of_pieces (S := S512x2560) (Val := Elt Ideal) (e := .f32) (hAll x a al) _ ?_ _ ?_
  · refine List.forall_mem_cons.mpr ⟨fun z => (congrFun (h_3 _ _ al) z).trans (hpiece x a al _ (by decide) z), ?_⟩
    refine List.forall_mem_cons.mpr ⟨fun z => (congrFun (h_2 _ _ al) z).trans (hpiece x a al _ (by decide) z), ?_⟩
    refine List.forall_mem_cons.mpr ⟨fun z => (congrFun (h_1 _ _ al) z).trans (hpiece x a al _ (by decide) z), ?_⟩
    refine List.forall_mem_cons.mpr ⟨fun z => (congrFun (h_0 _ _ al) z).trans (hpiece x a al _ (by decide) z), ?_⟩
    exact fun p hp => absurd hp (List.not_mem_nil)
  · exact View.cover_of_tiledL (s := S512x2560) _ ![128, 2560] (by sl_kernel_rfl) _

/-- The codes, as the four stores leave them. -/
theorem ccanon (x : FVec Ideal S512x2560 .bf16) (a : FVec Ideal S512x2560 .f32) (al : FVec Ideal S1x2560 .f32) (y : S512x2560.Idx) :
    View.canon (Val := Elt Ideal) (s := S512x2560) (e := .fp8e4m3) [⟨Rect.unit (s := S512x2560) ![384, 0] ![128, 2560] inb_S512x2560_S128x2560_384_0, k0_pay1 (F := Ideal) (k0_pay58 (F := Ideal) (k0_pay55 (F := Ideal) (View.ld (S := S512x2560) (Val := Elt Ideal) (e' := .bf16) x (Rect.unit (s := S512x2560) ![384, 0] ![128, 2560] inb_S512x2560_S128x2560_384_0)) (View.ld (S := S512x2560) (Val := Elt Ideal) (e' := .f32) a (Rect.unit (s := S512x2560) ![384, 0] ![128, 2560] inb_S512x2560_S128x2560_384_0)) al) (k0_pay56 (F := Ideal) (View.ld (S := S512x2560) (Val := Elt Ideal) (e' := .bf16) x (Rect.unit (s := S512x2560) ![384, 0] ![128, 2560] inb_S512x2560_S128x2560_384_0)) (View.ld (S := S512x2560) (Val := Elt Ideal) (e' := .f32) a (Rect.unit (s := S512x2560) ![384, 0] ![128, 2560] inb_S512x2560_S128x2560_384_0)) al) (k0_pay57 (F := Ideal))) (k0_pay64 (F := Ideal) (k0_pay59 (F := Ideal) (k0_pay55 (F := Ideal) (View.ld (S := S512x2560) (Val := Elt Ideal) (e' := .bf16) x (Rect.unit (s := S512x2560) ![384, 0] ![128, 2560] inb_S512x2560_S128x2560_384_0)) (View.ld (S := S512x2560) (Val := Elt Ideal) (e' := .f32) a (Rect.unit (s := S512x2560) ![384, 0] ![128, 2560] inb_S512x2560_S128x2560_384_0)) al) (k0_pay56 (F := Ideal) (View.ld (S := S512x2560) (Val := Elt Ideal) (e' := .bf16) x (Rect.unit (s := S512x2560) ![384, 0] ![128, 2560] inb_S512x2560_S128x2560_384_0)) (View.ld (S := S512x2560) (Val := Elt Ideal) (e' := .f32) a (Rect.unit (s := S512x2560) ![384, 0] ![128, 2560] inb_S512x2560_S128x2560_384_0)) al) (k0_pay57 (F := Ideal))) (k0_pay60 (F := Ideal) (k0_pay55 (F := Ideal) (View.ld (S := S512x2560) (Val := Elt Ideal) (e' := .bf16) x (Rect.unit (s := S512x2560) ![384, 0] ![128, 2560] inb_S512x2560_S128x2560_384_0)) (View.ld (S := S512x2560) (Val := Elt Ideal) (e' := .f32) a (Rect.unit (s := S512x2560) ![384, 0] ![128, 2560] inb_S512x2560_S128x2560_384_0)) al) (k0_pay56 (F := Ideal) (View.ld (S := S512x2560) (Val := Elt Ideal) (e' := .bf16) x (Rect.unit (s := S512x2560) ![384, 0] ![128, 2560] inb_S512x2560_S128x2560_384_0)) (View.ld (S := S512x2560) (Val := Elt Ideal) (e' := .f32) a (Rect.unit (s := S512x2560) ![384, 0] ![128, 2560] inb_S512x2560_S128x2560_384_0)) al) (k0_pay57 (F := Ideal))) (k0_pay61 (F := Ideal) (k0_pay55 (F := Ideal) (View.ld (S := S512x2560) (Val := Elt Ideal) (e' := .bf16) x (Rect.unit (s := S512x2560) ![384, 0] ![128, 2560] inb_S512x2560_S128x2560_384_0)) (View.ld (S := S512x2560) (Val := Elt Ideal) (e' := .f32) a (Rect.unit (s := S512x2560) ![384, 0] ![128, 2560] inb_S512x2560_S128x2560_384_0)) al) (k0_pay56 (F := Ideal) (View.ld (S := S512x2560) (Val := Elt Ideal) (e' := .bf16) x (Rect.unit (s := S512x2560) ![384, 0] ![128, 2560] inb_S512x2560_S128x2560_384_0)) (View.ld (S := S512x2560) (Val := Elt Ideal) (e' := .f32) a (Rect.unit (s := S512x2560) ![384, 0] ![128, 2560] inb_S512x2560_S128x2560_384_0)) al) (k0_pay57 (F := Ideal))) (k0_pay62 (F := Ideal) (k0_pay55 (F := Ideal) (View.ld (S := S512x2560) (Val := Elt Ideal) (e' := .bf16) x (Rect.unit (s := S512x2560) ![384, 0] ![128, 2560] inb_S512x2560_S128x2560_384_0)) (View.ld (S := S512x2560) (Val := Elt Ideal) (e' := .f32) a (Rect.unit (s := S512x2560) ![384, 0] ![128, 2560] inb_S512x2560_S128x2560_384_0)) al) (k0_pay56 (F := Ideal) (View.ld (S := S512x2560) (Val := Elt Ideal) (e' := .bf16) x (Rect.unit (s := S512x2560) ![384, 0] ![128, 2560] inb_S512x2560_S128x2560_384_0)) (View.ld (S := S512x2560) (Val := Elt Ideal) (e' := .f32) a (Rect.unit (s := S512x2560) ![384, 0] ![128, 2560] inb_S512x2560_S128x2560_384_0)) al) (k0_pay57 (F := Ideal))))⟩,
      ⟨Rect.unit (s := S512x2560) ![256, 0] ![128, 2560] inb_S512x2560_S128x2560_256_0, k0_pay53 (F := Ideal) (k0_pay47 (F := Ideal) (k0_pay45 (F := Ideal) (View.ld (S := S512x2560) (Val := Elt Ideal) (e' := .bf16) x (Rect.unit (s := S512x2560) ![256, 0] ![128, 2560] inb_S512x2560_S128x2560_256_0)) (View.ld (S := S512x2560) (Val := Elt Ideal) (e' := .f32) a (Rect.unit (s := S512x2560) ![256, 0] ![128, 2560] inb_S512x2560_S128x2560_256_0)) al) (k0_pay46 (F := Ideal) (View.ld (S := S512x2560) (Val := Elt Ideal) (e' := .bf16) x (Rect.unit (s := S512x2560) ![256, 0] ![128, 2560] inb_S512x2560_S128x2560_256_0)) (View.ld (S := S512x2560) (Val := Elt Ideal) (e' := .f32) a (Rect.unit (s := S512x2560) ![256, 0] ![128, 2560] inb_S512x2560_S128x2560_256_0)) al)) (k0_pay52 (F := Ideal) (k0_pay48 (F := Ideal) (k0_pay45 (F := Ideal) (View.ld (S := S512x2560) (Val := Elt Ideal) (e' := .bf16) x (Rect.unit (s := S512x2560) ![256, 0] ![128, 2560] inb_S512x2560_S128x2560_256_0)) (View.ld (S := S512x2560) (Val := Elt Ideal) (e' := .f32) a (Rect.unit (s := S512x2560) ![256, 0] ![128, 2560] inb_S512x2560_S128x2560_256_0)) al) (k0_pay46 (F := Ideal) (View.ld (S := S512x2560) (Val := Elt Ideal) (e' := .bf16) x (Rect.unit (s := S512x2560) ![256, 0] ![128, 2560] inb_S512x2560_S128x2560_256_0)) (View.ld (S := S512x2560) (Val := Elt Ideal) (e' := .f32) a (Rect.unit (s := S512x2560) ![256, 0] ![128, 2560] inb_S512x2560_S128x2560_256_0)) al)) (k0_pay49 (F := Ideal) (k0_pay45 (F := Ideal) (View.ld (S := S512x2560) (Val := Elt Ideal) (e' := .bf16) x (Rect.unit (s := S512x2560) ![256, 0] ![128, 2560] inb_S512x2560_S128x2560_256_0)) (View.ld (S := S512x2560) (Val := Elt Ideal) (e' := .f32) a (Rect.unit (s := S512x2560) ![256, 0] ![128, 2560] inb_S512x2560_S128x2560_256_0)) al) (k0_pay46 (F := Ideal) (View.ld (S := S512x2560) (Val := Elt Ideal) (e' := .bf16) x (Rect.unit (s := S512x2560) ![256, 0] ![128, 2560] inb_S512x2560_S128x2560_256_0)) (View.ld (S := S512x2560) (Val := Elt Ideal) (e' := .f32) a (Rect.unit (s := S512x2560) ![256, 0] ![128, 2560] inb_S512x2560_S128x2560_256_0)) al)) (k0_pay50 (F := Ideal) (k0_pay45 (F := Ideal) (View.ld (S := S512x2560) (Val := Elt Ideal) (e' := .bf16) x (Rect.unit (s := S512x2560) ![256, 0] ![128, 2560] inb_S512x2560_S128x2560_256_0)) (View.ld (S := S512x2560) (Val := Elt Ideal) (e' := .f32) a (Rect.unit (s := S512x2560) ![256, 0] ![128, 2560] inb_S512x2560_S128x2560_256_0)) al) (k0_pay46 (F := Ideal) (View.ld (S := S512x2560) (Val := Elt Ideal) (e' := .bf16) x (Rect.unit (s := S512x2560) ![256, 0] ![128, 2560] inb_S512x2560_S128x2560_256_0)) (View.ld (S := S512x2560) (Val := Elt Ideal) (e' := .f32) a (Rect.unit (s := S512x2560) ![256, 0] ![128, 2560] inb_S512x2560_S128x2560_256_0)) al)))⟩,
      ⟨Rect.unit (s := S512x2560) ![128, 0] ![128, 2560] inb_S512x2560_S128x2560_128_0, k0_pay43 (F := Ideal) (k0_pay36 (F := Ideal) (k0_pay33 (F := Ideal) (View.ld (S := S512x2560) (Val := Elt Ideal) (e' := .bf16) x (Rect.unit (s := S512x2560) ![128, 0] ![128, 2560] inb_S512x2560_S128x2560_128_0))) (k0_pay34 (F := Ideal) (View.ld (S := S512x2560) (Val := Elt Ideal) (e' := .bf16) x (Rect.unit (s := S512x2560) ![128, 0] ![128, 2560] inb_S512x2560_S128x2560_128_0)) (View.ld (S := S512x2560) (Val := Elt Ideal) (e' := .f32) a (Rect.unit (s := S512x2560) ![128, 0] ![128, 2560] inb_S512x2560_S128x2560_128_0))) (k0_pay35 (F := Ideal) al)) (k0_pay42 (F := Ideal) (k0_pay37 (F := Ideal) (k0_pay33 (F := Ideal) (View.ld (S := S512x2560) (Val := Elt Ideal) (e' := .bf16) x (Rect.unit (s := S512x2560) ![128, 0] ![128, 2560] inb_S512x2560_S128x2560_128_0))) (k0_pay34 (F := Ideal) (View.ld (S := S512x2560) (Val := Elt Ideal) (e' := .bf16) x (Rect.unit (s := S512x2560) ![128, 0] ![128, 2560] inb_S512x2560_S128x2560_128_0)) (View.ld (S := S512x2560) (Val := Elt Ideal) (e' := .f32) a (Rect.unit (s := S512x2560) ![128, 0] ![128, 2560] inb_S512x2560_S128x2560_128_0))) (k0_pay35 (F := Ideal) al)) (k0_pay38 (F := Ideal) (k0_pay33 (F := Ideal) (View.ld (S := S512x2560) (Val := Elt Ideal) (e' := .bf16) x (Rect.unit (s := S512x2560) ![128, 0] ![128, 2560] inb_S512x2560_S128x2560_128_0))) (k0_pay34 (F := Ideal) (View.ld (S := S512x2560) (Val := Elt Ideal) (e' := .bf16) x (Rect.unit (s := S512x2560) ![128, 0] ![128, 2560] inb_S512x2560_S128x2560_128_0)) (View.ld (S := S512x2560) (Val := Elt Ideal) (e' := .f32) a (Rect.unit (s := S512x2560) ![128, 0] ![128, 2560] inb_S512x2560_S128x2560_128_0))) (k0_pay35 (F := Ideal) al)) (k0_pay39 (F := Ideal) (k0_pay33 (F := Ideal) (View.ld (S := S512x2560) (Val := Elt Ideal) (e' := .bf16) x (Rect.unit (s := S512x2560) ![128, 0] ![128, 2560] inb_S512x2560_S128x2560_128_0))) (k0_pay34 (F := Ideal) (View.ld (S := S512x2560) (Val := Elt Ideal) (e' := .bf16) x (Rect.unit (s := S512x2560) ![128, 0] ![128, 2560] inb_S512x2560_S128x2560_128_0)) (View.ld (S := S512x2560) (Val := Elt Ideal) (e' := .f32) a (Rect.unit (s := S512x2560) ![128, 0] ![128, 2560] inb_S512x2560_S128x2560_128_0))) (k0_pay35 (F := Ideal) al)) (k0_pay40 (F := Ideal) (k0_pay33 (F := Ideal) (View.ld (S := S512x2560) (Val := Elt Ideal) (e' := .bf16) x (Rect.unit (s := S512x2560) ![128, 0] ![128, 2560] inb_S512x2560_S128x2560_128_0))) (k0_pay34 (F := Ideal) (View.ld (S := S512x2560) (Val := Elt Ideal) (e' := .bf16) x (Rect.unit (s := S512x2560) ![128, 0] ![128, 2560] inb_S512x2560_S128x2560_128_0)) (View.ld (S := S512x2560) (Val := Elt Ideal) (e' := .f32) a (Rect.unit (s := S512x2560) ![128, 0] ![128, 2560] inb_S512x2560_S128x2560_128_0))) (k0_pay35 (F := Ideal) al))) 23#32⟩,
      ⟨Rect.unit (s := S512x2560) ![0, 0] ![128, 2560] inb_S512x2560_S128x2560_0_0, k0_pay31 (F := Ideal) (k0_pay26 (F := Ideal) (k0_pay24 (F := Ideal) (View.ld (S := S512x2560) (Val := Elt Ideal) (e' := .bf16) x (Rect.unit (s := S512x2560) ![0, 0] ![128, 2560] inb_S512x2560_S128x2560_0_0))) (View.ld (S := S512x2560) (Val := Elt Ideal) (e' := .f32) a (Rect.unit (s := S512x2560) ![0, 0] ![128, 2560] inb_S512x2560_S128x2560_0_0)) al (k0_pay25 (F := Ideal) (View.ld (S := S512x2560) (Val := Elt Ideal) (e' := .f32) a (Rect.unit (s := S512x2560) ![0, 0] ![128, 2560] inb_S512x2560_S128x2560_0_0)))) (k0_pay30 (F := Ideal) (k0_pay27 (F := Ideal) (k0_pay24 (F := Ideal) (View.ld (S := S512x2560) (Val := Elt Ideal) (e' := .bf16) x (Rect.unit (s := S512x2560) ![0, 0] ![128, 2560] inb_S512x2560_S128x2560_0_0))) (View.ld (S := S512x2560) (Val := Elt Ideal) (e' := .f32) a (Rect.unit (s := S512x2560) ![0, 0] ![128, 2560] inb_S512x2560_S128x2560_0_0)) al (k0_pay25 (F := Ideal) (View.ld (S := S512x2560) (Val := Elt Ideal) (e' := .f32) a (Rect.unit (s := S512x2560) ![0, 0] ![128, 2560] inb_S512x2560_S128x2560_0_0)))) (k0_pay28 (F := Ideal) (k0_pay24 (F := Ideal) (View.ld (S := S512x2560) (Val := Elt Ideal) (e' := .bf16) x (Rect.unit (s := S512x2560) ![0, 0] ![128, 2560] inb_S512x2560_S128x2560_0_0))) (View.ld (S := S512x2560) (Val := Elt Ideal) (e' := .f32) a (Rect.unit (s := S512x2560) ![0, 0] ![128, 2560] inb_S512x2560_S128x2560_0_0)) al (k0_pay25 (F := Ideal) (View.ld (S := S512x2560) (Val := Elt Ideal) (e' := .f32) a (Rect.unit (s := S512x2560) ![0, 0] ![128, 2560] inb_S512x2560_S128x2560_0_0)))) (k0_pay29 (F := Ideal) (k0_pay24 (F := Ideal) (View.ld (S := S512x2560) (Val := Elt Ideal) (e' := .bf16) x (Rect.unit (s := S512x2560) ![0, 0] ![128, 2560] inb_S512x2560_S128x2560_0_0))) (View.ld (S := S512x2560) (Val := Elt Ideal) (e' := .f32) a (Rect.unit (s := S512x2560) ![0, 0] ![128, 2560] inb_S512x2560_S128x2560_0_0)) al (k0_pay25 (F := Ideal) (View.ld (S := S512x2560) (Val := Elt Ideal) (e' := .f32) a (Rect.unit (s := S512x2560) ![0, 0] ![128, 2560] inb_S512x2560_S128x2560_0_0)))) 23#32)⟩] y = cAll x a al y := by
  refine View.canon_apply_of_pieces (S := S512x2560) (Val := Elt Ideal) (e := .fp8e4m3) (cAll x a al) _ ?_ _ ?_
  · refine List.forall_mem_cons.mpr ⟨fun z => (congrFun (q_3 _ _ al) z).trans (cpiece x a al _ (by decide) z), ?_⟩
    refine List.forall_mem_cons.mpr ⟨fun z => (congrFun (q_2 _ _ al) z).trans (cpiece x a al _ (by decide) z), ?_⟩
    refine List.forall_mem_cons.mpr ⟨fun z => (congrFun (q_1 _ _ al) z).trans (cpiece x a al _ (by decide) z), ?_⟩
    refine List.forall_mem_cons.mpr ⟨fun z => (congrFun (q_0 _ _ al) z).trans (cpiece x a al _ (by decide) z), ?_⟩
    exact fun p hp => absurd hp (List.not_mem_nil)
  · exact View.cover_of_tiledL (s := S512x2560) _ ![128, 2560] (by sl_kernel_rfl) _

/-- The scales, as the four stores leave them. -/
theorem scanon (x : FVec Ideal S512x2560 .bf16) (a : FVec Ideal S512x2560 .f32) (al : FVec Ideal S1x2560 .f32) (y : S1x1x512.Idx) :
    View.canon (Val := Elt Ideal) (s := S1x1x512) (e := .f32) [⟨Rect.unit (s := S1x1x512) ![0, 0, 384] ![1, 1, 128] inb_S1x1x512_S1x1x128_0_0_384, k0_pay2 (F := Ideal) (k0_pay65 (F := Ideal) (k0_pay59 (F := Ideal) (k0_pay55 (F := Ideal) (View.ld (S := S512x2560) (Val := Elt Ideal) (e' := .bf16) x (Rect.unit (s := S512x2560) ![384, 0] ![128, 2560] inb_S512x2560_S128x2560_384_0)) (View.ld (S := S512x2560) (Val := Elt Ideal) (e' := .f32) a (Rect.unit (s := S512x2560) ![384, 0] ![128, 2560] inb_S512x2560_S128x2560_384_0)) al) (k0_pay56 (F := Ideal) (View.ld (S := S512x2560) (Val := Elt Ideal) (e' := .bf16) x (Rect.unit (s := S512x2560) ![384, 0] ![128, 2560] inb_S512x2560_S128x2560_384_0)) (View.ld (S := S512x2560) (Val := Elt Ideal) (e' := .f32) a (Rect.unit (s := S512x2560) ![384, 0] ![128, 2560] inb_S512x2560_S128x2560_384_0)) al) (k0_pay57 (F := Ideal))) (k0_pay60 (F := Ideal) (k0_pay55 (F := Ideal) (View.ld (S := S512x2560) (Val := Elt Ideal) (e' := .bf16) x (Rect.unit (s := S512x2560) ![384, 0] ![128, 2560] inb_S512x2560_S128x2560_384_0)) (View.ld (S := S512x2560) (Val := Elt Ideal) (e' := .f32) a (Rect.unit (s := S512x2560) ![384, 0] ![128, 2560] inb_S512x2560_S128x2560_384_0)) al) (k0_pay56 (F := Ideal) (View.ld (S := S512x2560) (Val := Elt Ideal) (e' := .bf16) x (Rect.unit (s := S512x2560) ![384, 0] ![128, 2560] inb_S512x2560_S128x2560_384_0)) (View.ld (S := S512x2560) (Val := Elt Ideal) (e' := .f32) a (Rect.unit (s := S512x2560) ![384, 0] ![128, 2560] inb_S512x2560_S128x2560_384_0)) al) (k0_pay57 (F := Ideal))) (k0_pay61 (F := Ideal) (k0_pay55 (F := Ideal) (View.ld (S := S512x2560) (Val := Elt Ideal) (e' := .bf16) x (Rect.unit (s := S512x2560) ![384, 0] ![128, 2560] inb_S512x2560_S128x2560_384_0)) (View.ld (S := S512x2560) (Val := Elt Ideal) (e' := .f32) a (Rect.unit (s := S512x2560) ![384, 0] ![128, 2560] inb_S512x2560_S128x2560_384_0)) al) (k0_pay56 (F := Ideal) (View.ld (S := S512x2560) (Val := Elt Ideal) (e' := .bf16) x (Rect.unit (s := S512x2560) ![384, 0] ![128, 2560] inb_S512x2560_S128x2560_384_0)) (View.ld (S := S512x2560) (Val := Elt Ideal) (e' := .f32) a (Rect.unit (s := S512x2560) ![384, 0] ![128, 2560] inb_S512x2560_S128x2560_384_0)) al) (k0_pay57 (F := Ideal))) (k0_pay62 (F := Ideal) (k0_pay55 (F := Ideal) (View.ld (S := S512x2560) (Val := Elt Ideal) (e' := .bf16) x (Rect.unit (s := S512x2560) ![384, 0] ![128, 2560] inb_S512x2560_S128x2560_384_0)) (View.ld (S := S512x2560) (Val := Elt Ideal) (e' := .f32) a (Rect.unit (s := S512x2560) ![384, 0] ![128, 2560] inb_S512x2560_S128x2560_384_0)) al) (k0_pay56 (F := Ideal) (View.ld (S := S512x2560) (Val := Elt Ideal) (e' := .bf16) x (Rect.unit (s := S512x2560) ![384, 0] ![128, 2560] inb_S512x2560_S128x2560_384_0)) (View.ld (S := S512x2560) (Val := Elt Ideal) (e' := .f32) a (Rect.unit (s := S512x2560) ![384, 0] ![128, 2560] inb_S512x2560_S128x2560_384_0)) al) (k0_pay57 (F := Ideal)))) k0_pay66⟩,
      ⟨Rect.unit (s := S1x1x512) ![0, 0, 256] ![1, 1, 128] inb_S1x1x512_S1x1x128_0_0_256, k0_pay54 (F := Ideal) (k0_pay51 (F := Ideal) (k0_pay48 (F := Ideal) (k0_pay45 (F := Ideal) (View.ld (S := S512x2560) (Val := Elt Ideal) (e' := .bf16) x (Rect.unit (s := S512x2560) ![256, 0] ![128, 2560] inb_S512x2560_S128x2560_256_0)) (View.ld (S := S512x2560) (Val := Elt Ideal) (e' := .f32) a (Rect.unit (s := S512x2560) ![256, 0] ![128, 2560] inb_S512x2560_S128x2560_256_0)) al) (k0_pay46 (F := Ideal) (View.ld (S := S512x2560) (Val := Elt Ideal) (e' := .bf16) x (Rect.unit (s := S512x2560) ![256, 0] ![128, 2560] inb_S512x2560_S128x2560_256_0)) (View.ld (S := S512x2560) (Val := Elt Ideal) (e' := .f32) a (Rect.unit (s := S512x2560) ![256, 0] ![128, 2560] inb_S512x2560_S128x2560_256_0)) al)) (k0_pay49 (F := Ideal) (k0_pay45 (F := Ideal) (View.ld (S := S512x2560) (Val := Elt Ideal) (e' := .bf16) x (Rect.unit (s := S512x2560) ![256, 0] ![128, 2560] inb_S512x2560_S128x2560_256_0)) (View.ld (S := S512x2560) (Val := Elt Ideal) (e' := .f32) a (Rect.unit (s := S512x2560) ![256, 0] ![128, 2560] inb_S512x2560_S128x2560_256_0)) al) (k0_pay46 (F := Ideal) (View.ld (S := S512x2560) (Val := Elt Ideal) (e' := .bf16) x (Rect.unit (s := S512x2560) ![256, 0] ![128, 2560] inb_S512x2560_S128x2560_256_0)) (View.ld (S := S512x2560) (Val := Elt Ideal) (e' := .f32) a (Rect.unit (s := S512x2560) ![256, 0] ![128, 2560] inb_S512x2560_S128x2560_256_0)) al)) (k0_pay50 (F := Ideal) (k0_pay45 (F := Ideal) (View.ld (S := S512x2560) (Val := Elt Ideal) (e' := .bf16) x (Rect.unit (s := S512x2560) ![256, 0] ![128, 2560] inb_S512x2560_S128x2560_256_0)) (View.ld (S := S512x2560) (Val := Elt Ideal) (e' := .f32) a (Rect.unit (s := S512x2560) ![256, 0] ![128, 2560] inb_S512x2560_S128x2560_256_0)) al) (k0_pay46 (F := Ideal) (View.ld (S := S512x2560) (Val := Elt Ideal) (e' := .bf16) x (Rect.unit (s := S512x2560) ![256, 0] ![128, 2560] inb_S512x2560_S128x2560_256_0)) (View.ld (S := S512x2560) (Val := Elt Ideal) (e' := .f32) a (Rect.unit (s := S512x2560) ![256, 0] ![128, 2560] inb_S512x2560_S128x2560_256_0)) al))) 127#32⟩,
      ⟨Rect.unit (s := S1x1x512) ![0, 0, 128] ![1, 1, 128] inb_S1x1x512_S1x1x128_0_0_128, k0_pay44 (F := Ideal) (k0_pay41 (F := Ideal) (k0_pay37 (F := Ideal) (k0_pay33 (F := Ideal) (View.ld (S := S512x2560) (Val := Elt Ideal) (e' := .bf16) x (Rect.unit (s := S512x2560) ![128, 0] ![128, 2560] inb_S512x2560_S128x2560_128_0))) (k0_pay34 (F := Ideal) (View.ld (S := S512x2560) (Val := Elt Ideal) (e' := .bf16) x (Rect.unit (s := S512x2560) ![128, 0] ![128, 2560] inb_S512x2560_S128x2560_128_0)) (View.ld (S := S512x2560) (Val := Elt Ideal) (e' := .f32) a (Rect.unit (s := S512x2560) ![128, 0] ![128, 2560] inb_S512x2560_S128x2560_128_0))) (k0_pay35 (F := Ideal) al)) (k0_pay38 (F := Ideal) (k0_pay33 (F := Ideal) (View.ld (S := S512x2560) (Val := Elt Ideal) (e' := .bf16) x (Rect.unit (s := S512x2560) ![128, 0] ![128, 2560] inb_S512x2560_S128x2560_128_0))) (k0_pay34 (F := Ideal) (View.ld (S := S512x2560) (Val := Elt Ideal) (e' := .bf16) x (Rect.unit (s := S512x2560) ![128, 0] ![128, 2560] inb_S512x2560_S128x2560_128_0)) (View.ld (S := S512x2560) (Val := Elt Ideal) (e' := .f32) a (Rect.unit (s := S512x2560) ![128, 0] ![128, 2560] inb_S512x2560_S128x2560_128_0))) (k0_pay35 (F := Ideal) al)) (k0_pay39 (F := Ideal) (k0_pay33 (F := Ideal) (View.ld (S := S512x2560) (Val := Elt Ideal) (e' := .bf16) x (Rect.unit (s := S512x2560) ![128, 0] ![128, 2560] inb_S512x2560_S128x2560_128_0))) (k0_pay34 (F := Ideal) (View.ld (S := S512x2560) (Val := Elt Ideal) (e' := .bf16) x (Rect.unit (s := S512x2560) ![128, 0] ![128, 2560] inb_S512x2560_S128x2560_128_0)) (View.ld (S := S512x2560) (Val := Elt Ideal) (e' := .f32) a (Rect.unit (s := S512x2560) ![128, 0] ![128, 2560] inb_S512x2560_S128x2560_128_0))) (k0_pay35 (F := Ideal) al)) (k0_pay40 (F := Ideal) (k0_pay33 (F := Ideal) (View.ld (S := S512x2560) (Val := Elt Ideal) (e' := .bf16) x (Rect.unit (s := S512x2560) ![128, 0] ![128, 2560] inb_S512x2560_S128x2560_128_0))) (k0_pay34 (F := Ideal) (View.ld (S := S512x2560) (Val := Elt Ideal) (e' := .bf16) x (Rect.unit (s := S512x2560) ![128, 0] ![128, 2560] inb_S512x2560_S128x2560_128_0)) (View.ld (S := S512x2560) (Val := Elt Ideal) (e' := .f32) a (Rect.unit (s := S512x2560) ![128, 0] ![128, 2560] inb_S512x2560_S128x2560_128_0))) (k0_pay35 (F := Ideal) al)))⟩,
      ⟨Rect.unit (s := S1x1x512) ![0, 0, 0] ![1, 1, 128] inb_S1x1x512_S1x1x128_0_0_0, k0_pay32 (F := Ideal) (k0_pay30 (F := Ideal) (k0_pay27 (F := Ideal) (k0_pay24 (F := Ideal) (View.ld (S := S512x2560) (Val := Elt Ideal) (e' := .bf16) x (Rect.unit (s := S512x2560) ![0, 0] ![128, 2560] inb_S512x2560_S128x2560_0_0))) (View.ld (S := S512x2560) (Val := Elt Ideal) (e' := .f32) a (Rect.unit (s := S512x2560) ![0, 0] ![128, 2560] inb_S512x2560_S128x2560_0_0)) al (k0_pay25 (F := Ideal) (View.ld (S := S512x2560) (Val := Elt Ideal) (e' := .f32) a (Rect.unit (s := S512x2560) ![0, 0] ![128, 2560] inb_S512x2560_S128x2560_0_0)))) (k0_pay28 (F := Ideal) (k0_pay24 (F := Ideal) (View.ld (S := S512x2560) (Val := Elt Ideal) (e' := .bf16) x (Rect.unit (s := S512x2560) ![0, 0] ![128, 2560] inb_S512x2560_S128x2560_0_0))) (View.ld (S := S512x2560) (Val := Elt Ideal) (e' := .f32) a (Rect.unit (s := S512x2560) ![0, 0] ![128, 2560] inb_S512x2560_S128x2560_0_0)) al (k0_pay25 (F := Ideal) (View.ld (S := S512x2560) (Val := Elt Ideal) (e' := .f32) a (Rect.unit (s := S512x2560) ![0, 0] ![128, 2560] inb_S512x2560_S128x2560_0_0)))) (k0_pay29 (F := Ideal) (k0_pay24 (F := Ideal) (View.ld (S := S512x2560) (Val := Elt Ideal) (e' := .bf16) x (Rect.unit (s := S512x2560) ![0, 0] ![128, 2560] inb_S512x2560_S128x2560_0_0))) (View.ld (S := S512x2560) (Val := Elt Ideal) (e' := .f32) a (Rect.unit (s := S512x2560) ![0, 0] ![128, 2560] inb_S512x2560_S128x2560_0_0)) al (k0_pay25 (F := Ideal) (View.ld (S := S512x2560) (Val := Elt Ideal) (e' := .f32) a (Rect.unit (s := S512x2560) ![0, 0] ![128, 2560] inb_S512x2560_S128x2560_0_0)))) 23#32)⟩] y = sAll x a al y := by
  refine View.canon_apply_of_pieces (S := S1x1x512) (Val := Elt Ideal) (e := .f32) (sAll x a al) _ ?_ _ ?_
  · refine List.forall_mem_cons.mpr ⟨fun z => (congrFun (s_3 _ _ al) z).trans (spiece x a al _ (by decide) (by decide) z), ?_⟩
    refine List.forall_mem_cons.mpr ⟨fun z => (congrFun (s_2 _ _ al) z).trans (spiece x a al _ (by decide) (by decide) z), ?_⟩
    refine List.forall_mem_cons.mpr ⟨fun z => (congrFun (s_1 _ _ al) z).trans (spiece x a al _ (by decide) (by decide) z), ?_⟩
    refine List.forall_mem_cons.mpr ⟨fun z => (congrFun (s_0 _ _ al) z).trans (spiece x a al _ (by decide) (by decide) z), ?_⟩
    exact fun p hp => absurd hp (List.not_mem_nil)
  · exact View.cover_of_tiledL (s := S1x1x512) _ ![1, 1, 128] (by sl_kernel_rfl) _

end Cert.OProjIdeal.Pure

end
-- ==== Proof.OProjPoint.lean ====
/- What the kernel of the output projection leaves in its three output buffers and in the scratch it carries, at one grid
   point, entry by entry. -/
module

public import proofs.«01_k».proof.Proof.Gen.OProjIdeal.Frame
public import proofs.«01_k».proof.Proof.OProjPieces

@[expose] public section

set_option maxRecDepth 16384

noncomputable section

open Idealize.ShloMosaic Idealize.ShloMosaic.TcCoe Idealize.SL.Sem Idealize.ShloMosaic.Tactic

namespace Cert.OProjIdeal.Pure

open Cert.OProjIdeal Cert.OProjIdeal.Gen Cert.Spec

variable (m : (ℓ : Loc nD τ sig) → Buf (Elt Ideal) ℓ)

/-- The carried scratch read whole is what it holds. -/
theorem carried (W : FVec Ideal S2560x2560 .bf16) : View.read (Elt Ideal) (View.whole cc0_scratch0) ((Memref.isWhole_whole cc0_scratch0).unread W) = W :=
  Memref.IsWhole.read_unread (Val := Elt Ideal) (Memref.isWhole_whole cc0_scratch0) W

set_option maxHeartbeats 4000000 in
theorem out_A_6 (c : Dev nD) (t : Fin cfg0.N) (h0 : t.val % 24 = 0) (y : S512x2560.Idx) :
    out0_A_6  c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t)
      y = hAll (iblk m c 4 t) (acc (iblk m c 0 t) (iblk m c 1 t) (wmat (iblk m c 2 t) (iblk m c 3 t))) (iblk m c 5 t) y := by
  frame_out
  simp only [wread]
  simp only [aread]
  exact hcanon _ _ _ y

set_option maxHeartbeats 4000000 in
theorem out_A_7 (c : Dev nD) (t : Fin cfg0.N) (h0 : t.val % 24 = 0) (y : S512x2560.Idx) :
    out0_A_7  c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t)
      y = cAll (iblk m c 4 t) (acc (iblk m c 0 t) (iblk m c 1 t) (wmat (iblk m c 2 t) (iblk m c 3 t))) (iblk m c 5 t) y := by
  frame_out
  simp only [wread]
  simp only [aread]
  exact ccanon _ _ _ y

set_option maxHeartbeats 4000000 in
theorem out_A_8 (c : Dev nD) (t : Fin cfg0.N) (h0 : t.val % 24 = 0) (y : S1x1x512.Idx) :
    out0_A_8  c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t)
      y = sAll (iblk m c 4 t) (acc (iblk m c 0 t) (iblk m c 1 t) (wmat (iblk m c 2 t) (iblk m c 3 t))) (iblk m c 5 t) y := by
  frame_out
  simp only [wread]
  simp only [aread]
  exact scanon _ _ _ y

set_option maxHeartbeats 4000000 in
theorem out_A_s (c : Dev nD) (t : Fin cfg0.N) (h0 : t.val % 24 = 0) (y : S2560x2560.Idx) :
    sout0_A_0  c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t)
      y = wmat (iblk m c 2 t) (iblk m c 3 t) y := by
  frame_out
  exact wcanon _ _ y

set_option maxHeartbeats 4000000 in
theorem out_B_6 (c : Dev nD) (t : Fin cfg0.N) (h0 : ¬ t.val % 24 = 0) (W : FVec Ideal S2560x2560 .bf16) (y : S512x2560.Idx) :
    out0_B_6  c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) W
      y = hAll (iblk m c 4 t) (acc (iblk m c 0 t) (iblk m c 1 t) W) (iblk m c 5 t) y := by
  frame_out
  simp only [aread, carried]
  exact hcanon _ _ _ y

set_option maxHeartbeats 4000000 in
theorem out_B_7 (c : Dev nD) (t : Fin cfg0.N) (h0 : ¬ t.val % 24 = 0) (W : FVec Ideal S2560x2560 .bf16) (y : S512x2560.Idx) :
    out0_B_7  c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) W
      y = cAll (iblk m c 4 t) (acc (iblk m c 0 t) (iblk m c 1 t) W) (iblk m c 5 t) y := by
  frame_out
  simp only [aread, carried]
  exact ccanon _ _ _ y

set_option maxHeartbeats 4000000 in
theorem out_B_8 (c : Dev nD) (t : Fin cfg0.N) (h0 : ¬ t.val % 24 = 0) (W : FVec Ideal S2560x2560 .bf16) (y : S1x1x512.Idx) :
    out0_B_8  c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) W
      y = sAll (iblk m c 4 t) (acc (iblk m c 0 t) (iblk m c 1 t) W) (iblk m c 5 t) y := by
  frame_out
  simp only [aread, carried]
  exact scanon _ _ _ y

end Cert.OProjIdeal.Pure

end
-- ==== Proof.OProjSpec.lean ====
/- The mathematics of the output projection: the attention rows projected, the rows of the layer's input moved towards the
   result on the sphere, and the moved rows quantised. -/
module

public import proofs.«01_k».proof.Proof.Sphere

@[expose] public section

set_option maxRecDepth 16384

noncomputable section

open Idealize.ShloMosaic Idealize.ShloMosaic.TcCoe Idealize.SL.Sem

namespace Cert.Spec

section
variable (oc : FVec Ideal ⟨2, ![12288, 2560]⟩ .fp8e4m3) (os : FVec Ideal ⟨3, ![24, 1, 512]⟩ .f32) (w : FVec Ideal ⟨2, ![2560, 2560]⟩ .fp8e4m3)
  (ws : FVec Ideal ⟨2, ![1, 2560]⟩ .f32) (x : FVec Ideal ⟨2, ![12288, 2560]⟩ .bf16) (al : FVec Ideal ⟨2, ![1, 2560]⟩ .f32)

/-- Entry `j` of the projection of row `R`, from its codes and its scale. -/
def oProj (R : Fin 12288) (j : Fin 2560) : EReal :=
  (∑ k : Fin 2560, (show EReal from oc (ix2 R k)) * ((show EReal from w (ix2 j k)) * ws (ix2 0 k)))
    * os (ix3 (⟨R.val / 512, by omega⟩ : Fin 24) 0 (⟨R.val % 512, by omega⟩ : Fin 512))

/-- Row `R` after the step. -/
def hRow (R : Fin 12288) : Fin 2560 → EReal :=
  sphere (fun k => al (ix2 0 k)) (fun k => (show EReal from x (ix2 R k))) (oProj oc os w ws R)

/-- The rows, their codes, and their scales, 512 rows to a line. -/
def hArr : FVec Ideal ⟨2, ![12288, 2560]⟩ .f32 := fun y => hRow oc os w ws x al (y 0) (y 1)
def hCodes : FVec Ideal ⟨2, ![12288, 2560]⟩ .fp8e4m3 := fun y => qcode (hRow oc os w ws x al (y 0)) (y 1)
def hScales : FVec Ideal ⟨3, ![24, 1, 512]⟩ .f32 := fun y => qscale (hRow oc os w ws x al ⟨(show Fin 24 from y 0).val * 512 + (show Fin 512 from y 2).val,
      by have h0 := (show Fin 24 from y 0).isLt; have h2 := (show Fin 512 from y 2).isLt; omega⟩)

end

end Cert.Spec

end
-- ==== Proof.OProjFinal.lean ====
/- What the kernel of the output projection leaves in its three result arrays. -/
module

public import proofs.«01_k».proof.Proof.OProjPoint
public import proofs.«01_k».proof.Proof.OProjSpec

@[expose] public section

set_option maxRecDepth 16384

noncomputable section

open Idealize.ShloMosaic Idealize.ShloMosaic.TcCoe Idealize.SL.Sem Idealize.ShloMosaic.Tactic

namespace Cert.OProjIdeal.Pure

open Cert.OProjIdeal Cert.OProjIdeal.Gen Cert.Spec

variable (m : (ℓ : Loc nD τ sig) → Buf (Elt Ideal) ℓ)

theorem idx : ∀ t : Fin cfg0.N, win0_0.index t = ![t.val, 0] ∧ win0_1.index t = ![t.val, 0, 0] ∧ win0_2.index t = ![0, 0]
    ∧ win0_3.index t = ![0, 0] ∧ win0_4.index t = ![t.val, 0] ∧ win0_5.index t = ![0, 0] ∧ win0_6.index t = ![t.val, 0]
    ∧ win0_7.index t = ![t.val, 0] ∧ win0_8.index t = ![t.val, 0, 0] :=
  (by decide +kernel : ∀ t : Fin grid0.N, _)

theorem rd0 (c : Dev nD) (t : Fin cfg0.N) (r : Fin 512) (R : Fin 12288) (hR : R.val = t.val * 512 + r.val) (k : Fin 2560) :
    iblk m c 0 t (ix2 r k) = m ((c : Thread nD τ).loc main_arg0) (ix2 R k) := by
  blk_point [iblk, V, idx t]

theorem rd1 (c : Dev nD) (t : Fin cfg0.N) (r : Fin 512) (q : Fin 24) (hq : q.val = t.val) :
    iblk m c 1 t (ix3 0 0 r) = m ((c : Thread nD τ).loc main_arg1) (ix3 q 0 r) := by
  blk_point [iblk, V, idx t]

theorem rd2 (c : Dev nD) (t : Fin cfg0.N) (n k : Fin 2560) :
    iblk m c 2 t (ix2 n k) = m ((c : Thread nD τ).loc main_arg2) (ix2 n k) := by
  blk_point [iblk, V, idx t]

theorem rd3 (c : Dev nD) (t : Fin cfg0.N) (k : Fin 2560) :
    iblk m c 3 t (ix2 0 k) = m ((c : Thread nD τ).loc main_arg3) (ix2 0 k) := by
  blk_point [iblk, V, idx t]

theorem rd4 (c : Dev nD) (t : Fin cfg0.N) (r : Fin 512) (R : Fin 12288) (hR : R.val = t.val * 512 + r.val) (k : Fin 2560) :
    iblk m c 4 t (ix2 r k) = m ((c : Thread nD τ).loc main_arg4) (ix2 R k) := by
  blk_point [iblk, V, idx t]

theorem rd5 (c : Dev nD) (t : Fin cfg0.N) (k : Fin 2560) :
    iblk m c 5 t (ix2 0 k) = m ((c : Thread nD τ).loc main_arg5) (ix2 0 k) := by
  blk_point [iblk, V, idx t]

/-- The scaled weights of the whole. -/
def WM (c : Dev nD) : FVec Ideal S2560x2560 .bf16 :=
  wmat (m ((c : Thread nD τ).loc main_arg2)) (m ((c : Thread nD τ).loc main_arg3))

/-- Every grid point reads the same weights. -/
theorem wmat_blk (c : Dev nD) (t : Fin cfg0.N) : wmat (iblk m c 2 t) (iblk m c 3 t) = WM m c := by
  funext y
  obtain ⟨a, b, rfl⟩ : ∃ (a b : Fin 2560), y = ix2 a b := ⟨y 0, y 1, eq_ix2 y⟩
  unfold WM wmat
  exact congrArg₂ (fun u v : EReal => u * v) (rd2 m c t a b) (rd3 m c t b)

/-- The carried scratch holds the scaled weights after every grid point. -/
theorem scr (c : Dev nD) : ∀ (n : ℕ) (hn : n < cfg0.N), (outsAt0 m c n hn).2.2.2 = WM m c := by
  intro n
  induction n with
  | zero =>
    intro hn
    rw [show outsAt0 m c 0 hn = _ from outsAt0_A m c ⟨0, hn⟩ (Nat.zero_mod _)]
    dsimp only
    exact (funext fun y => out_A_s m c ⟨0, hn⟩ (Nat.zero_mod _) y).trans (wmat_blk m c ⟨0, hn⟩)
  | succ n ih =>
    intro hn
    by_cases h0 : (n + 1) % 24 = 0
    · rw [show outsAt0 m c (n + 1) hn = _ from outsAt0_A m c ⟨n + 1, hn⟩ h0]
      dsimp only
      exact (funext fun y => out_A_s m c ⟨n + 1, hn⟩ h0 y).trans (wmat_blk m c ⟨n + 1, hn⟩)
    · rw [show outsAt0 m c (n + 1) hn = _ from outsAt0_B m c ⟨n + 1, hn⟩ h0]
      dsimp only
      exact ih (Nat.lt_of_succ_lt hn)

/-- The projection of a grid point's rows. -/
def pacc (c : Dev nD) (t : Fin cfg0.N) : FVec Ideal S512x2560 .f32 := acc (iblk m c 0 t) (iblk m c 1 t) (WM m c)

theorem at6 (c : Dev nD) (t : Fin cfg0.N) (y : S512x2560.Idx) :
    (outsAt0 m c t.val t.isLt).1 y = hAll (iblk m c 4 t) (pacc m c t) (iblk m c 5 t) y := by
  by_cases h0 : t.val % 24 = 0
  · rw [outsAt0_A m c t h0]
    dsimp only
    refine (out_A_6 m c t h0 y).trans ?_
    rw [wmat_blk]; rfl
  · rw [outsAt0_B m c t h0]
    dsimp only
    refine (out_B_6 m c t h0 _ y).trans ?_
    rw [scr]; rfl

theorem at7 (c : Dev nD) (t : Fin cfg0.N) (y : S512x2560.Idx) :
    (outsAt0 m c t.val t.isLt).2.1 y = cAll (iblk m c 4 t) (pacc m c t) (iblk m c 5 t) y := by
  by_cases h0 : t.val % 24 = 0
  · rw [outsAt0_A m c t h0]
    dsimp only
    refine (out_A_7 m c t h0 y).trans ?_
    rw [wmat_blk]; rfl
  · rw [outsAt0_B m c t h0]
    dsimp only
    refine (out_B_7 m c t h0 _ y).trans ?_
    rw [scr]; rfl

theorem at8 (c : Dev nD) (t : Fin cfg0.N) (y : S1x1x512.Idx) :
    (outsAt0 m c t.val t.isLt).2.2.1 y = sAll (iblk m c 4 t) (pacc m c t) (iblk m c 5 t) y := by
  by_cases h0 : t.val % 24 = 0
  · rw [outsAt0_A m c t h0]
    dsimp only
    refine (out_A_8 m c t h0 y).trans ?_
    rw [wmat_blk]; rfl
  · rw [outsAt0_B m c t h0]
    dsimp only
    refine (out_B_8 m c t h0 _ y).trans ?_
    rw [scr]; rfl

/-- A row of a grid point is the row of the whole at its place. -/
theorem row_eq (c : Dev nD) (t : Fin cfg0.N) (r : Fin 512) (R : Fin 12288) (hR : R.val = t.val * 512 + r.val) :
    rowH (iblk m c 4 t) (pacc m c t) (iblk m c 5 t) r
      = hRow (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) R := by
  unfold rowH hRow
  have h5 : (fun k : Fin 2560 => (show EReal from iblk m c 5 t (ix2 0 k))) = fun k => (show EReal from m ((c : Thread nD τ).loc main_arg5) (ix2 0 k)) :=
    funext fun k => rd5 m c t k
  have h4 : (fun k : Fin 2560 => (show EReal from iblk m c 4 t (ix2 r k))) = fun k => (show EReal from m ((c : Thread nD τ).loc main_arg4) (ix2 R k)) :=
    funext fun k => rd4 m c t r R hR k
  have ha : (fun k : Fin 2560 => (show EReal from pacc m c t (ix2 r k)))
      = oProj (m ((c : Thread nD τ).loc main_arg0)) (m ((c : Thread nD τ).loc main_arg1)) (m ((c : Thread nD τ).loc main_arg2)) (m ((c : Thread nD τ).loc main_arg3)) R := by
    funext j
    unfold pacc acc oProj
    refine congrArg₂ (fun a b : EReal => a * b) (Finset.sum_congr rfl fun k _ => ?_) ?_
    · exact congrArg (fun a : EReal => a * WM m c (ix2 j k)) (rd0 m c t r R hR k)
    · have hlt := r.isLt
      have hr : (⟨R.val % 512, by omega⟩ : Fin 512) = r := Fin.ext (by show R.val % 512 = r.val; omega)
      rw [hr]
      exact rd1 m c t r ⟨R.val / 512, by omega⟩ (by show R.val / 512 = t.val; omega)
  refine congr (congr (congrArg sphere h5) h4) ha

/-- The rows after the run. -/
theorem final6 (c : Dev nD) : (dats m 0 c).arrAt 6 cfg0.N
    = hArr (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  obtain ⟨a, b, rfl⟩ : ∃ (a : Fin 512) (b : Fin 2560), y = ix2 a b := ⟨y 0, y 1, eq_ix2 y⟩
  refine (at6 m c t (ix2 a b)).trans ?_
  unfold hArr
  have e0 : ((((cfg0.win 6).blk t).view.emb (ix2 a b)) 0).val = t.val * 512 + a.val := by blk_simp [idx t]
  have e1 : ((((cfg0.win 6).blk t).view.emb (ix2 a b)) 1) = b := Fin.ext (by blk_simp [idx t]; try omega)
  refine (congrFun (row_eq m c t a _ e0) b).trans ?_
  exact congrArg (hRow _ _ _ _ _ _ _) e1.symm

/-- The codes after the run. -/
theorem final7 (c : Dev nD) : (dats m 0 c).arrAt 7 cfg0.N
    = hCodes (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  obtain ⟨a, b, rfl⟩ : ∃ (a : Fin 512) (b : Fin 2560), y = ix2 a b := ⟨y 0, y 1, eq_ix2 y⟩
  refine (at7 m c t (ix2 a b)).trans ?_
  unfold hCodes
  have e0 : ((((cfg0.win 7).blk t).view.emb (ix2 a b)) 0).val = t.val * 512 + a.val := by blk_simp [idx t]
  have e1 : ((((cfg0.win 7).blk t).view.emb (ix2 a b)) 1) = b := Fin.ext (by blk_simp [idx t]; try omega)
  refine (congrArg (fun v : Fin 2560 → EReal => qcode v b) (row_eq m c t a _ e0)).trans ?_
  exact congrArg (qcode _) e1.symm

/-- The scales after the run. -/
theorem final8 (c : Dev nD) : (dats m 0 c).arrAt 8 cfg0.N
    = hScales (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 8 _ (by decide +kernel) fun t _ y => ?_
  blk_simp
  rw [after0_8]
  obtain ⟨z, z', a, rfl⟩ : ∃ (z z' : Fin 1) (a : Fin 512), y = ix3 z z' a := ⟨y 0, y 1, y 2, eq_ix3 y⟩
  obtain rfl : z = 0 := Subsingleton.elim _ _
  obtain rfl : z' = 0 := Subsingleton.elim _ _
  refine (at8 m c t (ix3 0 0 a)).trans ?_
  unfold hScales
  have e0 : ((((cfg0.win 8).blk t).view.emb (ix3 0 0 a)) 0).val = t.val := by blk_simp [idx t]; try omega
  have e2 : ((((cfg0.win 8).blk t).view.emb (ix3 0 0 a)) 2).val = a.val := by blk_simp [idx t]; try omega
  refine congrArg qscale (row_eq m c t a _ ?_)
  exact congrArg₂ (fun x y : ℕ => x * 512 + y) e0 e2

end Cert.OProjIdeal.Pure

end
-- ==== Proof.OProjRef.lean ====
/- What the reference of the output projection leaves in its three result arrays. -/
module

public import proofs.«01_k».proof.Proof.Gen.OProjRefIdeal.Frame
public import proofs.«01_k».proof.Proof.OProjSpec

@[expose] public section

set_option maxRecDepth 16384

noncomputable section

open Idealize.ShloMosaic Idealize.ShloMosaic.TcCoe Idealize.SL.Sem Idealize.ShloMosaic.Tactic

namespace Cert.OProjRefIdeal.Pure

open Cert.OProjRefIdeal Cert.OProjRefIdeal.Gen Cert.Spec

/-- The vector operations that take the exponents of a column. -/
def expV (v6 : FVec Ideal S12288x1 .f32) : FVec Ideal S12288x1 .f32 :=
  have v7 : FVec Ideal S12288x1 .f32 := broadcast S12288x1 (Scalar.ofBits .f32 0x00800000#32)
  have v9 : FVec Ideal S12288x1 .f32 := broadcast S12288x1 (Scalar.ofBits .f32 0x7B800000#32)
  have v13 : FVec Ideal S12288x1 .f32 := broadcast S12288x1 (Named.named κ "ln2" 0x3F317218#32)
  have v16 : FVec Ideal S12288x1 .f32 := broadcast S12288x1 (Scalar.ofBits .f32 0x3F800000#32)
  have v18 : FVec Ideal S12288x1 .f32 := broadcast S12288x1 (Scalar.ofBits .f32 0x00000000#32)
  select (andi (cmpf .oge v6 v7) (cmpf .olt v6 v9)) (addf (floor (divf (log v6) v13)) v16) v18

/-- They are the scalar exponent entrywise. -/
theorem expV_at (v : FVec Ideal S12288x1 .f32) (i : S12288x1.Idx) : expV v i = Cert.Quant.rexp (v i) := rfl

theorem exp2_eq (x : EReal) : FloatOps.exp2 (F := Ideal) (φ := .f32) x = Ideal.exp2 x := rfl

theorem exp2V_at (v : FVec Ideal S12288x1 .f32) (i : S12288x1.Idx) : exp2 v i = Ideal.exp2 (v i) := rfl

/-- The row maxima of magnitudes. -/
def maxV (h : FVec Ideal S12288x2560 .f32) : FVec Ideal S12288 .f32 :=
  multiReduction .maximumf [1] S12288 (absf h) 0xFF800000#32 reduces_S12288x2560_S12288 (.inl rfl) rfl

section
variable (h : FVec Ideal S12288x2560 .f32)

theorem exp_eq : k0_pay1 (F := Ideal) (maxV h) = expV (qcol reduces_S12288x2560_S12288 shapeCasts_S12288_S12288x1 h) := rfl

/-- The exponent of row `r`. -/
theorem rowexp_at (r : Fin 12288) : k0_pay1 (F := Ideal) (maxV h) (ix2 r 0) = Cert.Quant.rexp (qin fun k : Fin 2560 => h (ix2 r k)) := by
  rw [exp_eq, expV_at]
  exact congrArg Cert.Quant.rexp (qcol_at reduces_S12288x2560_S12288 shapeCasts_S12288_S12288x1 h r)

theorem scale_at (r : Fin 12288) : exp2 (k0_pay1 (F := Ideal) (maxV h)) (ix2 r 0) = qscale fun k : Fin 2560 => h (ix2 r k) := by
  rw [exp2V_at, rowexp_at]
  rfl

/-- A column laid out 512 to a line. -/
theorem lay_at (s : FVec Ideal S12288x1 .f32) (a : Fin 24) (b : Fin 512) :
    shapeCast S24x1x512 s shapeCasts_S12288x1_S24x1x512 (ix3 a 0 b) = s (ix2 (⟨a.val * 512 + b.val, by omega⟩ : Fin 12288) 0) := by
  pointwise

/-- The scales, 512 rows to a line. -/
theorem scales_at (a : Fin 24) (b : Fin 512) :
    k0_pay3 (F := Ideal) (maxV h) (ix3 a 0 b) = qscale fun k : Fin 2560 => h (ix2 (⟨a.val * 512 + b.val, by omega⟩ : Fin 12288) k) :=
  (lay_at _ a b).trans (scale_at h _)

/-- The codes from the rows and the column of exponents. -/
theorem codes_of (v : FVec Ideal S12288x2560 .f32) (e : FVec Ideal S12288x1 .f32) (r : Fin 12288) (j : Fin 2560) :
    (truncf .fp8e4m3 (minimumf (broadcast S12288x2560 (Scalar.ofBits .f32 0x43E00000#32)) (maximumf
      (broadcast S12288x2560 (Scalar.ofBits .f32 0xC3E00000#32)) (mulf v (broadcastTo S12288x2560
        (exp2 (subf (broadcast S12288x1 (Scalar.ofBits .f32 0x00000000#32)) e)) broadcasts_S12288x1_S12288x2560))))
      bitsLt_fp8e4m3_f32 : FVec Ideal S12288x2560 .fp8e4m3) (ix2 r j)
      = min (Ideal.ofBits .f32 0x43E00000#32) (max (Ideal.ofBits .f32 0xC3E00000#32)
        ((show EReal from v (ix2 r j)) * Ideal.exp2 (Ideal.ofBits .f32 0x00000000#32 - e (ix2 r 0)))) := by
  rw [Ideal.ofBits_zero_f32]
  pointwise [exp2_eq]

/-- The code at row `r`, column `j`. -/
theorem code_at (r : Fin 12288) (j : Fin 2560) : k0_pay2 (F := Ideal) h (maxV h) (ix2 r j) = qcode (fun k : Fin 2560 => h (ix2 r k)) j := by
  refine (codes_of h (k0_pay1 (maxV h)) r j).trans ?_
  unfold qcode Cert.Quant.rinv
  rw [rowexp_at]

end

section
variable (w : FVec Ideal S2560x2560 .fp8e4m3) (ws : FVec Ideal S1x2560 .f32) (oc : FVec Ideal S12288x2560 .fp8e4m3) (oscol : FVec Ideal S12288x1 .f32)
  (x : FVec Ideal S12288x2560 .bf16) (al : FVec Ideal S1x2560 .f32)

/-- The projection. -/
def accV : FVec Ideal S12288x2560 .f32 :=
  mulf (matmul (F := Ideal) dot_S12288x2560_S2560x2560_S12288x2560_1_1_0_0_n_n none (extf .bf16 oc bitsLt_fp8e4m3_bf16 : FVec Ideal S12288x2560 .bf16)
    (mulf (extf .bf16 w bitsLt_fp8e4m3_bf16) (broadcastTo S2560x2560 (truncf .bf16 ws bitsLt_bf16_f32) broadcasts_S1x2560_S2560x2560) : FVec Ideal S2560x2560 .bf16)
    (constant S12288x2560 .f32 0x00000000#32))
    (broadcastTo S12288x2560 (shapeCast S12288x1 oscol shapeCasts_S12288x1_S12288x1) broadcasts_S12288x1_S12288x2560)

theorem accV_at (r : Fin 12288) (j : Fin 2560) : accV w ws oc oscol (ix2 r j)
    = (∑ k : Fin 2560, (show EReal from oc (ix2 r k)) * ((show EReal from w (ix2 j k)) * ws (ix2 0 k))) * oscol (ix2 r 0) := by
  pointwise [accV]

theorem h_eq : k0_pay4 (F := Ideal) w ws oc oscol x al
    = sphereV reduces_S12288x2560_S12288 shapeCasts_S12288_S12288x1 broadcasts_S12288x1_S12288x2560 broadcasts_S1x2560_S12288x2560
        (extf .f32 x bitsLt_bf16_f32) (accV w ws oc oscol) al := rfl

theorem max_eq : k0_pay5 (F := Ideal) w ws oc oscol x al = maxV (k0_pay4 w ws oc oscol x al) := rfl

/-- Row `r` as the reference computes it. -/
theorem row_at (os : FVec Ideal S24x1x512 .f32)
    (hos : ∀ r : Fin 12288, oscol (ix2 r 0) = os (ix3 (⟨r.val / 512, by omega⟩ : Fin 24) 0 (⟨r.val % 512, by omega⟩ : Fin 512)))
    (r : Fin 12288) : (fun j : Fin 2560 => k0_pay4 (F := Ideal) w ws oc oscol x al (ix2 r j)) = hRow oc os w ws x al r := by
  funext j
  rw [h_eq]
  refine (sphereV_at reduces_S12288x2560_S12288 shapeCasts_S12288_S12288x1 broadcasts_S12288x1_S12288x2560 broadcasts_S1x2560_S12288x2560
    (extf .f32 x bitsLt_bf16_f32) (accV w ws oc oscol) al r j).trans ?_
  unfold hRow
  refine congrArg (fun a : Fin 2560 → EReal => sphere (fun k => al (ix2 0 k)) (fun k => (show EReal from x (ix2 r k))) a j) (funext fun k => ?_)
  refine (accV_at w ws oc oscol r k).trans ?_
  unfold oProj
  rw [hos]

end

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0, 0] :=
  (by decide +kernel : ∀ t : Fin grid0.N, _)

/-- The host's column of scales. -/
theorem col1 (c : Dev nD) (r : Fin 12288) : V m c main_v0 (ix2 r 0)
    = m ((c : Thread nD τ).loc main_arg1) (ix3 (⟨r.val / 512, by omega⟩ : Fin 24) 0 (⟨r.val % 512, by omega⟩ : Fin 512)) := by
  entry_read
  pointwise

theorem rd1 (c : Dev nD) (r : Fin 12288) : View.ld (iblk m c 1 t0_0) r0_3 (ix2 r 0)
    = m ((c : Thread nD τ).loc main_arg1) (ix3 (⟨r.val / 512, by omega⟩ : Fin 24) 0 (⟨r.val % 512, by omega⟩ : Fin 512)) := by
  have e : ((cfg0.win 1).blk t0_0).view.emb (ix2 r 0) = ix2 r 0 := by blk_ext [idx t0_0]
  have e' : iblk m c 1 t0_0 (ix2 r 0) = m ((c : Thread nD τ).loc main_arg1) (ix3 (⟨r.val / 512, by omega⟩ : Fin 24) 0 (⟨r.val % 512, by omega⟩ : Fin 512)) := by
    refine Eq.trans ?_ (col1 m c r)
    unfold iblk
    blk_simp [idx t0_0]
    exact congrArg (V m c main_v0) e
  refine Eq.trans ?_ e'
  pointwise [r0_3]

/-- The blocks the reference loads are its arguments. -/
theorem ld0 (c : Dev nD) : (View.ld (iblk m c 0 t0_0) r0_2 : FVec Ideal S12288x2560 .fp8e4m3) = m ((c : Thread nD τ).loc main_arg0) := by
  funext y
  obtain ⟨a, b, rfl⟩ : ∃ (a : Fin 12288) (b : Fin 2560), y = ix2 a b := ⟨y 0, y 1, eq_ix2 y⟩
  have e : iblk m c 0 t0_0 (ix2 a b) = m ((c : Thread nD τ).loc main_arg0) (ix2 a b) := by blk_point [iblk, V, idx t0_0]
  refine Eq.trans ?_ e
  pointwise [r0_2]

theorem ld2 (c : Dev nD) : (View.ld (iblk m c 2 t0_0) r0_0 : FVec Ideal S2560x2560 .fp8e4m3) = m ((c : Thread nD τ).loc main_arg2) := by
  funext y
  obtain ⟨a, b, rfl⟩ : ∃ (a b : Fin 2560), y = ix2 a b := ⟨y 0, y 1, eq_ix2 y⟩
  have e : iblk m c 2 t0_0 (ix2 a b) = m ((c : Thread nD τ).loc main_arg2) (ix2 a b) := by blk_point [iblk, V, idx t0_0]
  refine Eq.trans ?_ e
  pointwise [r0_0]

theorem ld3 (c : Dev nD) : (View.ld (iblk m c 3 t0_0) r0_1 : FVec Ideal S1x2560 .f32) = m ((c : Thread nD τ).loc main_arg3) := by
  funext y
  obtain ⟨z, b, rfl⟩ : ∃ (z : Fin 1) (b : Fin 2560), y = ix2 z b := ⟨y 0, y 1, eq_ix2 y⟩
  obtain rfl : z = 0 := Subsingleton.elim _ _
  have e : iblk m c 3 t0_0 (ix2 0 b) = m ((c : Thread nD τ).loc main_arg3) (ix2 0 b) := by blk_point [iblk, V, idx t0_0]
  refine Eq.trans ?_ e
  pointwise [r0_1]

theorem ld4 (c : Dev nD) : (View.ld (iblk m c 4 t0_0) r0_2 : FVec Ideal S12288x2560 .bf16) = m ((c : Thread nD τ).loc main_arg4) := by
  funext y
  obtain ⟨a, b, rfl⟩ : ∃ (a : Fin 12288) (b : Fin 2560), y = ix2 a b := ⟨y 0, y 1, eq_ix2 y⟩
  have e : iblk m c 4 t0_0 (ix2 a b) = m ((c : Thread nD τ).loc main_arg4) (ix2 a b) := by blk_point [iblk, V, idx t0_0]
  refine Eq.trans ?_ e
  pointwise [r0_2]

theorem ld5 (c : Dev nD) : (View.ld (iblk m c 5 t0_0) r0_1 : FVec Ideal S1x2560 .f32) = m ((c : Thread nD τ).loc main_arg5) := by
  funext y
  obtain ⟨z, b, rfl⟩ : ∃ (z : Fin 1) (b : Fin 2560), y = ix2 z b := ⟨y 0, y 1, eq_ix2 y⟩
  obtain rfl : z = 0 := Subsingleton.elim _ _
  have e : iblk m c 5 t0_0 (ix2 0 b) = m ((c : Thread nD τ).loc main_arg5) (ix2 0 b) := by blk_point [iblk, V, idx t0_0]
  refine Eq.trans ?_ e
  pointwise [r0_1]

/-- The rows after the reference's run. -/
theorem final6 (c : Dev nD) : (dats m 0 c).arrAt 6 cfg0.N
    = hArr (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_after_last 6 t0_0 (by decide +kernel) _ fun j => ?_
  blk_simp
  rw [after0_6]
  unfold out0_6
  obtain ⟨a, b, rfl⟩ : ∃ (a : Fin 12288) (b : Fin 2560), j = ix2 a b := ⟨j 0, j 1, eq_ix2 j⟩
  have e : ix2 a b = r0_2.emb (ix2 a b) := by unfold r0_2; blk_ext
  rw [e]
  refine (View.canon_cons_emb r0_2 _ _ _).trans ?_
  rw [← e]
  refine (congrFun (row_at _ _ _ _ _ _ (m ((c : Thread nD τ).loc main_arg1)) (rd1 m c) a) b).trans ?_
  rw [ld0, ld2, ld3, ld4, ld5]
  rfl

/-- The codes after the reference's run. -/
theorem final7 (c : Dev nD) : (dats m 0 c).arrAt 7 cfg0.N
    = hCodes (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_after_last 7 t0_0 (by decide +kernel) _ fun j => ?_
  blk_simp
  rw [after0_7]
  unfold out0_7 k0_pay6
  obtain ⟨a, b, rfl⟩ : ∃ (a : Fin 12288) (b : Fin 2560), j = ix2 a b := ⟨j 0, j 1, eq_ix2 j⟩
  have e : ix2 a b = r0_2.emb (ix2 a b) := by unfold r0_2; blk_ext
  rw [e]
  refine (View.canon_cons_emb r0_2 _ _ _).trans ?_
  rw [← e, max_eq]
  refine (code_at _ a b).trans ?_
  refine (congrArg (fun v : Fin 2560 → EReal => qcode v b) (row_at _ _ _ _ _ _ (m ((c : Thread nD τ).loc main_arg1)) (rd1 m c) a)).trans ?_
  rw [ld0, ld2, ld3, ld4, ld5]
  rfl

/-- The scales after the reference's run. -/
theorem final8 (c : Dev nD) : (dats m 0 c).arrAt 8 cfg0.N
    = hScales (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_after_last 8 t0_0 (by decide +kernel) _ fun j => ?_
  blk_simp
  rw [after0_8]
  unfold out0_8 k0_pay6
  obtain ⟨a, z, b, rfl⟩ : ∃ (a : Fin 24) (z : Fin 1) (b : Fin 512), j = ix3 a z b := ⟨j 0, j 1, j 2, eq_ix3 j⟩
  obtain rfl : z = 0 := Subsingleton.elim _ _
  have e : ix3 a 0 b = r0_4.emb (ix3 a 0 b) := by unfold r0_4; blk_ext
  rw [e]
  refine (View.canon_cons_emb r0_4 _ _ _).trans ?_
  rw [← e, max_eq]
  refine (scales_at _ a b).trans ?_
  refine (congrArg qscale (row_at _ _ _ _ _ _ (m ((c : Thread nD τ).loc main_arg1)) (rd1 m c) _)).trans ?_
  rw [ld0, ld2, ld3, ld4, ld5]
  rfl

end Cert.OProjRefIdeal.Pure

end
-- ==== Proof.OProjAlg.lean ====
/- The kernel of the output projection and its reference end with the same results. -/
module

public import proofs.«01_k».proof.Defs
public import proofs.«01_k».proof.Proof.OProjFinal
public import proofs.«01_k».proof.Proof.OProjRef
public import Idealize.ShloMosaic.Lib.Claim

@[expose] public section

noncomputable section

open Idealize.ShloMosaic Idealize.ShloMosaic.TcCoe Idealize.SL.Sem Idealize.ShloMosaic.Tactic

namespace Cert.OProj

/-- A function of six arguments gives equal values at equal arguments. -/
theorem six {α β γ δ ε ζ η : Type} (f : α → β → γ → δ → ε → ζ → η) {a a' : α} {b b' : β} {c c' : γ} {d d' : δ} {e e' : ε} {g g' : ζ}
    (ha : a = a') (hb : b = b') (hc : c = c') (hd : d = d') (he : e = e') (hg : g = g') : f a b c d e g = f a' b' c' d' e' g' := by
  subst ha hb hc hd he hg; rfl

set_option maxHeartbeats 4000000 in
/-- From memories that agree on the arguments, the kernel and its reference leave the same rows, codes and scales. -/
theorem algebraic : Cert.algebraic_OProjIdeal_OProjRefIdeal := by
  pair_intro
  · run_from Cert.OProjIdeal.Gen.run_main m g
  · run_from Cert.OProjRefIdeal.Gen.run_main m' g'
    · obtain ⟨h0, h1, h2, h3, h4, h5⟩ := hagree c
      exact (Cert.OProjRefIdeal.Pure.final6 m' c).trans ((six Cert.Spec.hArr h0 h1 h2 h3 h4 h5).trans (Cert.OProjIdeal.Pure.final6 m c).symm)
    · obtain ⟨h0, h1, h2, h3, h4, h5⟩ := hagree c
      exact (Cert.OProjRefIdeal.Pure.final7 m' c).trans ((six Cert.Spec.hCodes h0 h1 h2 h3 h4 h5).trans (Cert.OProjIdeal.Pure.final7 m c).symm)
    · obtain ⟨h0, h1, h2, h3, h4, h5⟩ := hagree c
      exact (Cert.OProjRefIdeal.Pure.final8 m' c).trans ((six Cert.Spec.hScales h0 h1 h2 h3 h4 h5).trans (Cert.OProjIdeal.Pure.final8 m c).symm)

end Cert.OProj

end
-- ==== Proof.lean ====
module

public import proofs.«01_k».proof.Defs
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.UpRefIdeal.Skeleton
public import proofs.«01_k».proof.Proof.Gen.UpRefIdeal.Launch
public import proofs.«01_k».proof.Proof.Gen.UpRefIdeal.Points
public import proofs.«01_k».proof.Proof.Gen.UpRefIdeal.Frame
public import proofs.«01_k».proof.Proof.Gen.UpIdeal.Value
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.QkvRefIdeal.Skeleton
public import proofs.«01_k».proof.Proof.Gen.QkvRefIdeal.Launch
public import proofs.«01_k».proof.Proof.Gen.QkvRefIdeal.Points
public import proofs.«01_k».proof.Proof.Gen.QkvRefIdeal.Frame
public import proofs.«01_k».proof.Proof.Gen.QkvIdeal.Value
public import proofs.«01_k».proof.Proof.Gen.OProj
public import proofs.«01_k».proof.Proof.Gen.OProj.Skeleton
public import proofs.«01_k».proof.Proof.Gen.OProj.Launch
public import proofs.«01_k».proof.Proof.Gen.OProj.Points
public import proofs.«01_k».proof.Proof.Gen.OProj.Frame
public import proofs.«01_k».proof.Proof.Gen.OProjIdeal
public import proofs.«01_k».proof.Proof.Gen.OProjIdeal.Skeleton
public import proofs.«01_k».proof.Proof.Gen.OProjIdeal.Launch
public import proofs.«01_k».proof.Proof.Gen.OProjIdeal.Points
public import proofs.«01_k».proof.Proof.Gen.OProjIdeal.Frame
public import proofs.«01_k».proof.Proof.Gen.OProjRefIdeal
public import proofs.«01_k».proof.Proof.Gen.OProjRefIdeal.Skeleton
public import proofs.«01_k».proof.Proof.Gen.OProjRefIdeal.Launch
public import proofs.«01_k».proof.Proof.Gen.OProjRefIdeal.Points
public import proofs.«01_k».proof.Proof.Gen.OProjRefIdeal.Frame
public import proofs.«01_k».proof.Proof.Gen.OProjIdeal.Value
public import proofs.«01_k».proof.Proof.UpAlg
public import proofs.«01_k».proof.Proof.QkvAlg
public import proofs.«01_k».proof.Proof.OProjAlg
public import Idealize.ShloMosaic.Adequacy
public import Idealize.ShloMosaic.Init

@[expose] public section

noncomputable section

namespace Cert.Proof

open Idealize.ShloMosaic Idealize.SL.Sem Cert.Up

theorem claim : Cert.Claim := ⟨Cert.Up.Gen.facts, Cert.UpIdeal.Gen.facts, Cert.UpRefIdeal.Gen.facts, Cert.Qkv.Gen.facts, Cert.QkvIdeal.Gen.facts,
  Cert.QkvRefIdeal.Gen.facts, Cert.OProj.Gen.facts, Cert.OProjIdeal.Gen.facts, Cert.OProjRefIdeal.Gen.facts,
  fun m g _ => Cert.Up.Gen.frame m g, fun m g _ => Cert.UpIdeal.Gen.frame m g, fun m g _ => Cert.UpRefIdeal.Gen.frame m g,
  fun m g _ => Cert.Qkv.Gen.frame m g, fun m g _ => Cert.QkvIdeal.Gen.frame m g, fun m g _ => Cert.QkvRefIdeal.Gen.frame m g,
  fun m g _ => Cert.OProj.Gen.frame m g, fun m g _ => Cert.OProjIdeal.Gen.frame m g, fun m g _ => Cert.OProjRefIdeal.Gen.frame m g,
  trivial, Cert.Up.algebraic, trivial, Cert.Qkv.algebraic, trivial, Cert.OProj.algebraic⟩

end Cert.Proof

end
